-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S8x2048 : Shape := ⟨2, ![8, 2048]⟩
abbrev S65536x64x32 : Shape := ⟨3, ![65536, 64, 32]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel

variable [Facts]

def fn {F : FTy → Type} [FloatOps F] (main_arg0 : IVec S8x2048 32) (main_arg1 : FVec F S65536x64x32 .f32) : IVec S_ 1 :=
  let main_c : IVec S_ 32 := constantI S_ 32 0#32
  let main_v0 : IVec S8x2048 32 := broadcastInDim S8x2048 ![] bcast_S_S8x2048 main_c
  let main_v1 : IVec S8x2048 1 := cmpi .sge main_arg0 main_v0
  let main_c_0 : IVec S_ 32 := constantI S_ 32 65536#32
  let main_v2 : IVec S8x2048 32 := broadcastInDim S8x2048 ![] bcast_S_S8x2048 main_c_0
  let main_v3 : IVec S8x2048 1 := cmpi .slt main_arg0 main_v2
  let main_v4 : IVec S8x2048 1 := andi main_v1 main_v3
  let main_c_1 : IVec S_ 1 := constantI S_ 1 1#1
  let main_v5 : IVec S_ 1 := (fun x v => Host.reduce IntOp.andi x v reducesTo_S8x2048_S_d0_1 h_S_) main_v4 main_c_1
  main_v5
-- ==== Kernel.lean ====
abbrev S8x2048 : Shape := ⟨2, ![8, 2048]⟩
abbrev S65536x64x32 : Shape := ⟨3, ![65536, 64, 32]⟩
abbrev S16384 : Shape := ⟨1, ![16384]⟩
abbrev S65536x16x128 : Shape := ⟨3, ![65536, 16, 128]⟩
abbrev S16384x16x128 : Shape := ⟨3, ![16384, 16, 128]⟩
abbrev S4x512x16x128 : Shape := ⟨4, ![4, 512, 16, 128]⟩
abbrev S4 : Shape := ⟨1, ![4]⟩
abbrev S1 : Shape := ⟨1, ![1]⟩
abbrev S_ : Shape := ⟨0, ![]⟩
abbrev S1x1x16x128 : Shape := ⟨4, ![1, 1, 16, 128]⟩
abbrev S16x128 : Shape := ⟨2, ![16, 128]⟩
abbrev S1x16x128 : Shape := ⟨3, ![1, 16, 128]⟩
abbrev S512x16x128 : Shape := ⟨3, ![512, 16, 128]⟩
abbrev S1x512x16x128 : Shape := ⟨4, ![1, 512, 16, 128]⟩
abbrev S8x2048x64x32 : Shape := ⟨4, ![8, 2048, 64, 32]⟩

abbrev nBuf : Space → Nat
  | .hbm => 5
  | .vmem => 1
  | .smem => 1
  | _ => 0

abbrev bufTy : (tb : Table) → Fin (tcTables nBuf tb) → BufTy
  | .hbm, ⟨0, _⟩ => ⟨S8x2048, .i32⟩
  | .hbm, ⟨1, _⟩ => ⟨S65536x64x32, .f32⟩
  | .hbm, ⟨2, _⟩ => ⟨S65536x16x128, .f32⟩
  | .hbm, ⟨3, _⟩ => ⟨S16384x16x128, .f32⟩
  | .hbm, ⟨4, _⟩ => ⟨S8x2048x64x32, .f32⟩
  | .local _ .vmem, ⟨0, _⟩ => ⟨S4x512x16x128, .f32⟩
  | .local _ .smem, ⟨0, _⟩ => ⟨S16384, .i32⟩
  | _, _ => ⟨S8x2048, .i32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev cc0_scratch0 : Ref sig .tc := ⟨.vmem, 0, rfl⟩

abbrev nD : Nat := 1
abbrev τ : Topo := Topo.v7x

variable {F : FTy → Type} [FloatOps F]

abbrev grid0 : Pipeline.Grid := ⟨2, ![2, 16], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_21 : BitVec 32 := 0#32
  let c8_i32 : BitVec 32 := 8#32
  let v32 : BitVec 32 := Scalar.addi c0_i32_21 c8_i32
  let c1_i32_22 : BitVec 32 := 1#32
  ⟨c0_i32_21, v32, c1_i32_22⟩
def k0_off1 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c0_i32_25 : BitVec 32 := 0#32
  let v36 : BitVec 32 := Scalar.addi v34 c0_i32_25
  let v37 : Index := Scalar.indexCast v36
  ![v37.toNat]
def k0_off2 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off3 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c0_i32_26 : BitVec 32 := 0#32
  let v39 : BitVec 32 := Scalar.addi v35 c0_i32_26
  let c0_i32_27 : BitVec 32 := 0#32
  let c0_i32_28 : BitVec 32 := 0#32
  ![v0.toNat, v39.toNat, 0, 0]
def k0_off4 (v38 : BitVec 32) : Fin 3 → Nat :=
  let c0_i32_29 : BitVec 32 := 0#32
  let c0_i32_30 : BitVec 32 := 0#32
  ![v38.toNat, 0, 0]

def k0_chk1 (i : grid0.Coords) (v38 : BitVec 32) : Prop :=
  (∀ (k0_h1 : k0_cond1 i = 1#1), ∀ a, (k0_off4 v38) a + S1x16x128.size a ≤ S65536x16x128.size a)
theorem k0_off4_inb : ∀ (i : grid0.Coords) (v38 : BitVec 32) (k0_hw1 : k0_chk1 i v38), ∀ (k0_h1 : k0_cond1 i = 1#1), ∀ a, (k0_off4 v38) a + S1x16x128.size a ≤ S65536x16x128.size a := fun i v38 k0_hw1 k0_h1 => k0_hw1 k0_h1

def k0_off5 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c1_i32_31 : BitVec 32 := 1#32
  let v46 : BitVec 32 := Scalar.addi v34 c1_i32_31
  let v47 : Index := Scalar.indexCast v46
  ![v47.toNat]
def k0_off6 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off7 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c1_i32_32 : BitVec 32 := 1#32
  let v49 : BitVec 32 := Scalar.addi v35 c1_i32_32
  let c0_i32_33 : BitVec 32 := 0#32
  let c0_i32_34 : BitVec 32 := 0#32
  ![v0.toNat, v49.toNat, 0, 0]
def k0_off8 (v48 : BitVec 32) : Fin 3 → Nat :=
  let c0_i32_35 : BitVec 32 := 0#32
  let c0_i32_36 : BitVec 32 := 0#32
  ![v48.toNat, 0, 0]

def k0_chk2 (i : grid0.Coords) (v48 : BitVec 32) : Prop :=
  (∀ (k0_h1 : k0_cond1 i = 1#1), ∀ a, (k0_off8 v48) a + S1x16x128.size a ≤ S65536x16x128.size a)
theorem k0_off8_inb : ∀ (i : grid0.Coords) (v48 : BitVec 32) (k0_hw2 : k0_chk2 i v48), ∀ (k0_h1 : k0_cond1 i = 1#1), ∀ a, (k0_off8 v48) a + S1x16x128.size a ≤ S65536x16x128.size a := fun i v48 k0_hw2 k0_h1 => k0_hw2 k0_h1

def k0_off9 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c2_i32 : BitVec 32 := 2#32
  let v56 : BitVec 32 := Scalar.addi v34 c2_i32
  let v57 : Index := Scalar.indexCast v56
  ![v57.toNat]
def k0_off10 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off11 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c2_i32_37 : BitVec 32 := 2#32
  let v59 : BitVec 32 := Scalar.addi v35 c2_i32_37
  let c0_i32_38 : BitVec 32 := 0#32
  let c0_i32_39 : BitVec 32 := 0#32
  ![v0.toNat, v59.toNat, 0, 0]
def k0_off12 (v58 : BitVec 32) : Fin 3 → Nat :=
  let c0_i32_40 : BitVec 32 := 0#32
  let c0_i32_41 : BitVec 32 := 0#32
  ![v58.toNat, 0, 0]

def k0_chk3 (i : grid0.Coords) (v58 : BitVec 32) : Prop :=
  (∀ (k0_h1 : k0_cond1 i = 1#1), ∀ a, (k0_off12 v58) a + S1x16x128.size a ≤ S65536x16x128.size a)
theorem k0_off12_inb : ∀ (i : grid0.Coords) (v58 : BitVec 32) (k0_hw3 : k0_chk3 i v58), ∀ (k0_h1 : k0_cond1 i = 1#1), ∀ a, (k0_off12 v58) a + S1x16x128.size a ≤ S65536x16x128.size a := fun i v58 k0_hw3 k0_h1 => k0_hw3 k0_h1

def k0_off13 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c3_i32_42 : BitVec 32 := 3#32
  let v66 : BitVec 32 := Scalar.addi v34 c3_i32_42
  let v67 : Index := Scalar.indexCast v66
  ![v67.toNat]
def k0_off14 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off15 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c3_i32_43 : BitVec 32 := 3#32
  let v69 : BitVec 32 := Scalar.addi v35 c3_i32_43
  let c0_i32_44 : BitVec 32 := 0#32
  let c0_i32_45 : BitVec 32 := 0#32
  ![v0.toNat, v69.toNat, 0, 0]
def k0_off16 (v68 : BitVec 32) : Fin 3 → Nat :=
  let c0_i32_46 : BitVec 32 := 0#32
  let c0_i32_47 : BitVec 32 := 0#32
  ![v68.toNat, 0, 0]

def k0_chk4 (i : grid0.Coords) (v68 : BitVec 32) : Prop :=
  (∀ (k0_h1 : k0_cond1 i = 1#1), ∀ a, (k0_off16 v68) a + S1x16x128.size a ≤ S65536x16x128.size a)
theorem k0_off16_inb : ∀ (i : grid0.Coords) (v68 : BitVec 32) (k0_hw4 : k0_chk4 i v68), ∀ (k0_h1 : k0_cond1 i = 1#1), ∀ a, (k0_off16 v68) a + S1x16x128.size a ≤ S65536x16x128.size a := fun i v68 k0_hw4 k0_h1 => k0_hw4 k0_h1

def k0_off17 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c4_i32_48 : BitVec 32 := 4#32
  let v76 : BitVec 32 := Scalar.addi v34 c4_i32_48
  let v77 : Index := Scalar.indexCast v76
  ![v77.toNat]
def k0_off18 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off19 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c4_i32_49 : BitVec 32 := 4#32
  let v79 : BitVec 32 := Scalar.addi v35 c4_i32_49
  let c0_i32_50 : BitVec 32 := 0#32
  let c0_i32_51 : BitVec 32 := 0#32
  ![v0.toNat, v79.toNat, 0, 0]
def k0_off20 (v78 : BitVec 32) : Fin 3 → Nat :=
  let c0_i32_52 : BitVec 32 := 0#32
  let c0_i32_53 : BitVec 32 := 0#32
  ![v78.toNat, 0, 0]

def k0_chk5 (i : grid0.Coords) (v78 : BitVec 32) : Prop :=
  (∀ (k0_h1 : k0_cond1 i = 1#1), ∀ a, (k0_off20 v78) a + S1x16x128.size a ≤ S65536x16x128.size a)
theorem k0_off20_inb : ∀ (i : grid0.Coords) (v78 : BitVec 32) (k0_hw5 : k0_chk5 i v78), ∀ (k0_h1 : k0_cond1 i = 1#1), ∀ a, (k0_off20 v78) a + S1x16x128.size a ≤ S65536x16x128.size a := fun i v78 k0_hw5 k0_h1 => k0_hw5 k0_h1

def k0_off21 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c5_i32 : BitVec 32 := 5#32
  let v86 : BitVec 32 := Scalar.addi v34 c5_i32
  let v87 : Index := Scalar.indexCast v86
  ![v87.toNat]
def k0_off22 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off23 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c5_i32_54 : BitVec 32 := 5#32
  let v89 : BitVec 32 := Scalar.addi v35 c5_i32_54
  let c0_i32_55 : BitVec 32 := 0#32
  let c0_i32_56 : BitVec 32 := 0#32
  ![v0.toNat, v89.toNat, 0, 0]
def k0_off24 (v88 : BitVec 32) : Fin 3 → Nat :=
  let c0_i32_57 : BitVec 32 := 0#32
  let c0_i32_58 : BitVec 32 := 0#32
  ![v88.toNat, 0, 0]

def k0_chk6 (i : grid0.Coords) (v88 : BitVec 32) : Prop :=
  (∀ (k0_h1 : k0_cond1 i = 1#1), ∀ a, (k0_off24 v88) a + S1x16x128.size a ≤ S65536x16x128.size a)
theorem k0_off24_inb : ∀ (i : grid0.Coords) (v88 : BitVec 32) (k0_hw6 : k0_chk6 i v88), ∀ (k0_h1 : k0_cond1 i = 1#1), ∀ a, (k0_off24 v88) a + S1x16x128.size a ≤ S65536x16x128.size a := fun i v88 k0_hw6 k0_h1 => k0_hw6 k0_h1

def k0_off25 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c6_i32 : BitVec 32 := 6#32
  let v96 : BitVec 32 := Scalar.addi v34 c6_i32
  let v97 : Index := Scalar.indexCast v96
  ![v97.toNat]
def k0_off26 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off27 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c6_i32_59 : BitVec 32 := 6#32
  let v99 : BitVec 32 := Scalar.addi v35 c6_i32_59
  let c0_i32_60 : BitVec 32 := 0#32
  let c0_i32_61 : BitVec 32 := 0#32
  ![v0.toNat, v99.toNat, 0, 0]
def k0_off28 (v98 : BitVec 32) : Fin 3 → Nat :=
  let c0_i32_62 : BitVec 32 := 0#32
  let c0_i32_63 : BitVec 32 := 0#32
  ![v98.toNat, 0, 0]

def k0_chk7 (i : grid0.Coords) (v98 : BitVec 32) : Prop :=
  (∀ (k0_h1 : k0_cond1 i = 1#1), ∀ a, (k0_off28 v98) a + S1x16x128.size a ≤ S65536x16x128.size a)
theorem k0_off28_inb : ∀ (i : grid0.Coords) (v98 : BitVec 32) (k0_hw7 : k0_chk7 i v98), ∀ (k0_h1 : k0_cond1 i = 1#1), ∀ a, (k0_off28 v98) a + S1x16x128.size a ≤ S65536x16x128.size a := fun i v98 k0_hw7 k0_h1 => k0_hw7 k0_h1

def k0_off29 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c7_i32 : BitVec 32 := 7#32
  let v106 : BitVec 32 := Scalar.addi v34 c7_i32
  let v107 : Index := Scalar.indexCast v106
  ![v107.toNat]
def k0_off30 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off31 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c7_i32_64 : BitVec 32 := 7#32
  let v109 : BitVec 32 := Scalar.addi v35 c7_i32_64
  let c0_i32_65 : BitVec 32 := 0#32
  let c0_i32_66 : BitVec 32 := 0#32
  ![v0.toNat, v109.toNat, 0, 0]
def k0_off32 (v108 : BitVec 32) : Fin 3 → Nat :=
  let c0_i32_67 : BitVec 32 := 0#32
  let c0_i32_68 : BitVec 32 := 0#32
  ![v108.toNat, 0, 0]

def k0_chk8 (i : grid0.Coords) (v108 : BitVec 32) : Prop :=
  (∀ (k0_h1 : k0_cond1 i = 1#1), ∀ a, (k0_off32 v108) a + S1x16x128.size a ≤ S65536x16x128.size a)
theorem k0_off32_inb : ∀ (i : grid0.Coords) (v108 : BitVec 32) (k0_hw8 : k0_chk8 i v108), ∀ (k0_h1 : k0_cond1 i = 1#1), ∀ a, (k0_off32 v108) a + S1x16x128.size a ≤ S65536x16x128.size a := fun i v108 k0_hw8 k0_h1 => k0_hw8 k0_h1

def k0_off33 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c8_i32_69 : BitVec 32 := 8#32
  let v116 : BitVec 32 := Scalar.addi v34 c8_i32_69
  let v117 : Index := Scalar.indexCast v116
  ![v117.toNat]
def k0_off34 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off35 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c8_i32_70 : BitVec 32 := 8#32
  let v119 : BitVec 32 := Scalar.addi v35 c8_i32_70
  let c0_i32_71 : BitVec 32 := 0#32
  let c0_i32_72 : BitVec 32 := 0#32
  ![v0.toNat, v119.toNat, 0, 0]
def k0_off36 (v118 : BitVec 32) : Fin 3 → Nat :=
  let c0_i32_73 : BitVec 32 := 0#32
  let c0_i32_74 : BitVec 32 := 0#32
  ![v118.toNat, 0, 0]

def k0_chk9 (i : grid0.Coords) (v118 : BitVec 32) : Prop :=
  (∀ (k0_h1 : k0_cond1 i = 1#1), ∀ a, (k0_off36 v118) a + S1x16x128.size a ≤ S65536x16x128.size a)
theorem k0_off36_inb : ∀ (i : grid0.Coords) (v118 : BitVec 32) (k0_hw9 : k0_chk9 i v118), ∀ (k0_h1 : k0_cond1 i = 1#1), ∀ a, (k0_off36 v118) a + S1x16x128.size a ≤ S65536x16x128.size a := fun i v118 k0_hw9 k0_h1 => k0_hw9 k0_h1

def k0_off37 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c9_i32 : BitVec 32 := 9#32
  let v126 : BitVec 32 := Scalar.addi v34 c9_i32
  let v127 : Index := Scalar.indexCast v126
  ![v127.toNat]
def k0_off38 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off39 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c9_i32_75 : BitVec 32 := 9#32
  let v129 : BitVec 32 := Scalar.addi v35 c9_i32_75
  let c0_i32_76 : BitVec 32 := 0#32
  let c0_i32_77 : BitVec 32 := 0#32
  ![v0.toNat, v129.toNat, 0, 0]
def k0_off40 (v128 : BitVec 32) : Fin 3 → Nat :=
  let c0_i32_78 : BitVec 32 := 0#32
  let c0_i32_79 : BitVec 32 := 0#32
  ![v128.toNat, 0, 0]

def k0_chk10 (i : grid0.Coords) (v128 : BitVec 32) : Prop :=
  (∀ (k0_h1 : k0_cond1 i = 1#1), ∀ a, (k0_off40 v128) a + S1x16x128.size a ≤ S65536x16x128.size a)
theorem k0_off40_inb : ∀ (i : grid0.Coords) (v128 : BitVec 32) (k0_hw10 : k0_chk10 i v128), ∀ (k0_h1 : k0_cond1 i = 1#1), ∀ a, (k0_off40 v128) a + S1x16x128.size a ≤ S65536x16x128.size a := fun i v128 k0_hw10 k0_h1 => k0_hw10 k0_h1

def k0_off41 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c10_i32 : BitVec 32 := 10#32
  let v136 : BitVec 32 := Scalar.addi v34 c10_i32
  let v137 : Index := Scalar.indexCast v136
  ![v137.toNat]
def k0_off42 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off43 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c10_i32_80 : BitVec 32 := 10#32
  let v139 : BitVec 32 := Scalar.addi v35 c10_i32_80
  let c0_i32_81 : BitVec 32 := 0#32
  let c0_i32_82 : BitVec 32 := 0#32
  ![v0.toNat, v139.toNat, 0, 0]
def k0_off44 (v138 : BitVec 32) : Fin 3 → Nat :=
  let c0_i32_83 : BitVec 32 := 0#32
  let c0_i32_84 : BitVec 32 := 0#32
  ![v138.toNat, 0, 0]

def k0_chk11 (i : grid0.Coords) (v138 : BitVec 32) : Prop :=
  (∀ (k0_h1 : k0_cond1 i = 1#1), ∀ a, (k0_off44 v138) a + S1x16x128.size a ≤ S65536x16x128.size a)
theorem k0_off44_inb : ∀ (i : grid0.Coords) (v138 : BitVec 32) (k0_hw11 : k0_chk11 i v138), ∀ (k0_h1 : k0_cond1 i = 1#1), ∀ a, (k0_off44 v138) a + S1x16x128.size a ≤ S65536x16x128.size a := fun i v138 k0_hw11 k0_h1 => k0_hw11 k0_h1

def k0_off45 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c11_i32 : BitVec 32 := 11#32
  let v146 : BitVec 32 := Scalar.addi v34 c11_i32
  let v147 : Index := Scalar.indexCast v146
  ![v147.toNat]
def k0_off46 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off47 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c11_i32_85 : BitVec 32 := 11#32
  let v149 : BitVec 32 := Scalar.addi v35 c11_i32_85
  let c0_i32_86 : BitVec 32 := 0#32
  let c0_i32_87 : BitVec 32 := 0#32
  ![v0.toNat, v149.toNat, 0, 0]
def k0_off48 (v148 : BitVec 32) : Fin 3 → Nat :=
  let c0_i32_88 : BitVec 32 := 0#32
  let c0_i32_89 : BitVec 32 := 0#32
  ![v148.toNat, 0, 0]

def k0_chk12 (i : grid0.Coords) (v148 : BitVec 32) : Prop :=
  (∀ (k0_h1 : k0_cond1 i = 1#1), ∀ a, (k0_off48 v148) a + S1x16x128.size a ≤ S65536x16x128.size a)
theorem k0_off48_inb : ∀ (i : grid0.Coords) (v148 : BitVec 32) (k0_hw12 : k0_chk12 i v148), ∀ (k0_h1 : k0_cond1 i = 1#1), ∀ a, (k0_off48 v148) a + S1x16x128.size a ≤ S65536x16x128.size a := fun i v148 k0_hw12 k0_h1 => k0_hw12 k0_h1

def k0_off49 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c12_i32 : BitVec 32 := 12#32
  let v156 : BitVec 32 := Scalar.addi v34 c12_i32
  let v157 : Index := Scalar.indexCast v156
  ![v157.toNat]
def k0_off50 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off51 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c12_i32_90 : BitVec 32 := 12#32
  let v159 : BitVec 32 := Scalar.addi v35 c12_i32_90
  let c0_i32_91 : BitVec 32 := 0#32
  let c0_i32_92 : BitVec 32 := 0#32
  ![v0.toNat, v159.toNat, 0, 0]
def k0_off52 (v158 : BitVec 32) : Fin 3 → Nat :=
  let c0_i32_93 : BitVec 32 := 0#32
  let c0_i32_94 : BitVec 32 := 0#32
  ![v158.toNat, 0, 0]

def k0_chk13 (i : grid0.Coords) (v158 : BitVec 32) : Prop :=
  (∀ (k0_h1 : k0_cond1 i = 1#1), ∀ a, (k0_off52 v158) a + S1x16x128.size a ≤ S65536x16x128.size a)
theorem k0_off52_inb : ∀ (i : grid0.Coords) (v158 : BitVec 32) (k0_hw13 : k0_chk13 i v158), ∀ (k0_h1 : k0_cond1 i = 1#1), ∀ a, (k0_off52 v158) a + S1x16x128.size a ≤ S65536x16x128.size a := fun i v158 k0_hw13 k0_h1 => k0_hw13 k0_h1

def k0_off53 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c13_i32 : BitVec 32 := 13#32
  let v166 : BitVec 32 := Scalar.addi v34 c13_i32
  let v167 : Index := Scalar.indexCast v166
  ![v167.toNat]
def k0_off54 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off55 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c13_i32_95 : BitVec 32 := 13#32
  let v169 : BitVec 32 := Scalar.addi v35 c13_i32_95
  let c0_i32_96 : BitVec 32 := 0#32
  let c0_i32_97 : BitVec 32 := 0#32
  ![v0.toNat, v169.toNat, 0, 0]
def k0_off56 (v168 : BitVec 32) : Fin 3 → Nat :=
  let c0_i32_98 : BitVec 32 := 0#32
  let c0_i32_99 : BitVec 32 := 0#32
  ![v168.toNat, 0, 0]

def k0_chk14 (i : grid0.Coords) (v168 : BitVec 32) : Prop :=
  (∀ (k0_h1 : k0_cond1 i = 1#1), ∀ a, (k0_off56 v168) a + S1x16x128.size a ≤ S65536x16x128.size a)
theorem k0_off56_inb : ∀ (i : grid0.Coords) (v168 : BitVec 32) (k0_hw14 : k0_chk14 i v168), ∀ (k0_h1 : k0_cond1 i = 1#1), ∀ a, (k0_off56 v168) a + S1x16x128.size a ≤ S65536x16x128.size a := fun i v168 k0_hw14 k0_h1 => k0_hw14 k0_h1

def k0_off57 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c14_i32 : BitVec 32 := 14#32
  let v176 : BitVec 32 := Scalar.addi v34 c14_i32
  let v177 : Index := Scalar.indexCast v176
  ![v177.toNat]
def k0_off58 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off59 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c14_i32_100 : BitVec 32 := 14#32
  let v179 : BitVec 32 := Scalar.addi v35 c14_i32_100
  let c0_i32_101 : BitVec 32 := 0#32
  let c0_i32_102 : BitVec 32 := 0#32
  ![v0.toNat, v179.toNat, 0, 0]
def k0_off60 (v178 : BitVec 32) : Fin 3 → Nat :=
  let c0_i32_103 : BitVec 32 := 0#32
  let c0_i32_104 : BitVec 32 := 0#32
  ![v178.toNat, 0, 0]

def k0_chk15 (i : grid0.Coords) (v178 : BitVec 32) : Prop :=
  (∀ (k0_h1 : k0_cond1 i = 1#1), ∀ a, (k0_off60 v178) a + S1x16x128.size a ≤ S65536x16x128.size a)
theorem k0_off60_inb : ∀ (i : grid0.Coords) (v178 : BitVec 32) (k0_hw15 : k0_chk15 i v178), ∀ (k0_h1 : k0_cond1 i = 1#1), ∀ a, (k0_off60 v178) a + S1x16x128.size a ≤ S65536x16x128.size a := fun i v178 k0_hw15 k0_h1 => k0_hw15 k0_h1

def k0_off61 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c15_i32_105 : BitVec 32 := 15#32
  let v186 : BitVec 32 := Scalar.addi v34 c15_i32_105
  let v187 : Index := Scalar.indexCast v186
  ![v187.toNat]
def k0_off62 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off63 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c15_i32_106 : BitVec 32 := 15#32
  let v189 : BitVec 32 := Scalar.addi v35 c15_i32_106
  let c0_i32_107 : BitVec 32 := 0#32
  let c0_i32_108 : BitVec 32 := 0#32
  ![v0.toNat, v189.toNat, 0, 0]
def k0_off64 (v188 : BitVec 32) : Fin 3 → Nat :=
  let c0_i32_109 : BitVec 32 := 0#32
  let c0_i32_110 : BitVec 32 := 0#32
  ![v188.toNat, 0, 0]

def k0_chk16 (i : grid0.Coords) (v188 : BitVec 32) : Prop :=
  (∀ (k0_h1 : k0_cond1 i = 1#1), ∀ a, (k0_off64 v188) a + S1x16x128.size a ≤ S65536x16x128.size a)
theorem k0_off64_inb : ∀ (i : grid0.Coords) (v188 : BitVec 32) (k0_hw16 : k0_chk16 i v188), ∀ (k0_h1 : k0_cond1 i = 1#1), ∀ a, (k0_off64 v188) a + S1x16x128.size a ≤ S65536x16x128.size a := fun i v188 k0_hw16 k0_h1 => k0_hw16 k0_h1

def k0_off65 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c16_i32_111 : BitVec 32 := 16#32
  let v196 : BitVec 32 := Scalar.addi v34 c16_i32_111
  let v197 : Index := Scalar.indexCast v196
  ![v197.toNat]
def k0_off66 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off67 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c16_i32_112 : BitVec 32 := 16#32
  let v199 : BitVec 32 := Scalar.addi v35 c16_i32_112
  let c0_i32_113 : BitVec 32 := 0#32
  let c0_i32_114 : BitVec 32 := 0#32
  ![v0.toNat, v199.toNat, 0, 0]
def k0_off68 (v198 : BitVec 32) : Fin 3 → Nat :=
  let c0_i32_115 : BitVec 32 := 0#32
  let c0_i32_116 : BitVec 32 := 0#32
  ![v198.toNat, 0, 0]

def k0_chk17 (i : grid0.Coords) (v198 : BitVec 32) : Prop :=
  (∀ (k0_h1 : k0_cond1 i = 1#1), ∀ a, (k0_off68 v198) a + S1x16x128.size a ≤ S65536x16x128.size a)
theorem k0_off68_inb : ∀ (i : grid0.Coords) (v198 : BitVec 32) (k0_hw17 : k0_chk17 i v198), ∀ (k0_h1 : k0_cond1 i = 1#1), ∀ a, (k0_off68 v198) a + S1x16x128.size a ≤ S65536x16x128.size a := fun i v198 k0_hw17 k0_h1 => k0_hw17 k0_h1

def k0_off69 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c17_i32 : BitVec 32 := 17#32
  let v206 : BitVec 32 := Scalar.addi v34 c17_i32
  let v207 : Index := Scalar.indexCast v206
  ![v207.toNat]
def k0_off70 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off71 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c17_i32_117 : BitVec 32 := 17#32
  let v209 : BitVec 32 := Scalar.addi v35 c17_i32_117
  let c0_i32_118 : BitVec 32 := 0#32
  let c0_i32_119 : BitVec 32 := 0#32
  ![v0.toNat, v209.toNat, 0, 0]
def k0_off72 (v208 : BitVec 32) : Fin 3 → Nat :=
  let c0_i32_120 : BitVec 32 := 0#32
  let c0_i32_121 : BitVec 32 := 0#32
  ![v208.toNat, 0, 0]

def k0_chk18 (i : grid0.Coords) (v208 : BitVec 32) : Prop :=
  (∀ (k0_h1 : k0_cond1 i = 1#1), ∀ a, (k0_off72 v208) a + S1x16x128.size a ≤ S65536x16x128.size a)
theorem k0_off72_inb : ∀ (i : grid0.Coords) (v208 : BitVec 32) (k0_hw18 : k0_chk18 i v208), ∀ (k0_h1 : k0_cond1 i = 1#1), ∀ a, (k0_off72 v208) a + S1x16x128.size a ≤ S65536x16x128.size a := fun i v208 k0_hw18 k0_h1 => k0_hw18 k0_h1

def k0_off73 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c18_i32 : BitVec 32 := 18#32
  let v216 : BitVec 32 := Scalar.addi v34 c18_i32
  let v217 : Index := Scalar.indexCast v216
  ![v217.toNat]
def k0_off74 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off75 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c18_i32_122 : BitVec 32 := 18#32
  let v219 : BitVec 32 := Scalar.addi v35 c18_i32_122
  let c0_i32_123 : BitVec 32 := 0#32
  let c0_i32_124 : BitVec 32 := 0#32
  ![v0.toNat, v219.toNat, 0, 0]
def k0_off76 (v218 : BitVec 32) : Fin 3 → Nat :=
  let c0_i32_125 : BitVec 32 := 0#32
  let c0_i32_126 : BitVec 32 := 0#32
  ![v218.toNat, 0, 0]

def k0_chk19 (i : grid0.Coords) (v218 : BitVec 32) : Prop :=
  (∀ (k0_h1 : k0_cond1 i = 1#1), ∀ a, (k0_off76 v218) a + S1x16x128.size a ≤ S65536x16x128.size a)
theorem k0_off76_inb : ∀ (i : grid0.Coords) (v218 : BitVec 32) (k0_hw19 : k0_chk19 i v218), ∀ (k0_h1 : k0_cond1 i = 1#1), ∀ a, (k0_off76 v218) a + S1x16x128.size a ≤ S65536x16x128.size a := fun i v218 k0_hw19 k0_h1 => k0_hw19 k0_h1

def k0_off77 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c19_i32 : BitVec 32 := 19#32
  let v226 : BitVec 32 := Scalar.addi v34 c19_i32
  let v227 : Index := Scalar.indexCast v226
  ![v227.toNat]
def k0_off78 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off79 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c19_i32_127 : BitVec 32 := 19#32
  let v229 : BitVec 32 := Scalar.addi v35 c19_i32_127
  let c0_i32_128 : BitVec 32 := 0#32
  let c0_i32_129 : BitVec 32 := 0#32
  ![v0.toNat, v229.toNat, 0, 0]
def k0_off80 (v228 : BitVec 32) : Fin 3 → Nat :=
  let c0_i32_130 : BitVec 32 := 0#32
  let c0_i32_131 : BitVec 32 := 0#32
  ![v228.toNat, 0, 0]

def k0_chk20 (i : grid0.Coords) (v228 : BitVec 32) : Prop :=
  (∀ (k0_h1 : k0_cond1 i = 1#1), ∀ a, (k0_off80 v228) a + S1x16x128.size a ≤ S65536x16x128.size a)
theorem k0_off80_inb : ∀ (i : grid0.Coords) (v228 : BitVec 32) (k0_hw20 : k0_chk20 i v228), ∀ (k0_h1 : k0_cond1 i = 1#1), ∀ a, (k0_off80 v228) a + S1x16x128.size a ≤ S65536x16x128.size a := fun i v228 k0_hw20 k0_h1 => k0_hw20 k0_h1

def k0_off81 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c20_i32 : BitVec 32 := 20#32
  let v236 : BitVec 32 := Scalar.addi v34 c20_i32
  let v237 : Index := Scalar.indexCast v236
  ![v237.toNat]
def k0_off82 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off83 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c20_i32_132 : BitVec 32 := 20#32
  let v239 : BitVec 32 := Scalar.addi v35 c20_i32_132
  let c0_i32_133 : BitVec 32 := 0#32
  let c0_i32_134 : BitVec 32 := 0#32
  ![v0.toNat, v239.toNat, 0, 0]
def k0_off84 (v238 : BitVec 32) : Fin 3 → Nat :=
  let c0_i32_135 : BitVec 32 := 0#32
  let c0_i32_136 : BitVec 32 := 0#32
  ![v238.toNat, 0, 0]

def k0_chk21 (i : grid0.Coords) (v238 : BitVec 32) : Prop :=
  (∀ (k0_h1 : k0_cond1 i = 1#1), ∀ a, (k0_off84 v238) a + S1x16x128.size a ≤ S65536x16x128.size a)
theorem k0_off84_inb : ∀ (i : grid0.Coords) (v238 : BitVec 32) (k0_hw21 : k0_chk21 i v238), ∀ (k0_h1 : k0_cond1 i = 1#1), ∀ a, (k0_off84 v238) a + S1x16x128.size a ≤ S65536x16x128.size a := fun i v238 k0_hw21 k0_h1 => k0_hw21 k0_h1

def k0_off85 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c21_i32 : BitVec 32 := 21#32
  let v246 : BitVec 32 := Scalar.addi v34 c21_i32
  let v247 : Index := Scalar.indexCast v246
  ![v247.toNat]
def k0_off86 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off87 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c21_i32_137 : BitVec 32 := 21#32
  let v249 : BitVec 32 := Scalar.addi v35 c21_i32_137
  let c0_i32_138 : BitVec 32 := 0#32
  let c0_i32_139 : BitVec 32 := 0#32
  ![v0.toNat, v249.toNat, 0, 0]
def k0_off88 (v248 : BitVec 32) : Fin 3 → Nat :=
  let c0_i32_140 : BitVec 32 := 0#32
  let c0_i32_141 : BitVec 32 := 0#32
  ![v248.toNat, 0, 0]

def k0_chk22 (i : grid0.Coords) (v248 : BitVec 32) : Prop :=
  (∀ (k0_h1 : k0_cond1 i = 1#1), ∀ a, (k0_off88 v248) a + S1x16x128.size a ≤ S65536x16x128.size a)
theorem k0_off88_inb : ∀ (i : grid0.Coords) (v248 : BitVec 32) (k0_hw22 : k0_chk22 i v248), ∀ (k0_h1 : k0_cond1 i = 1#1), ∀ a, (k0_off88 v248) a + S1x16x128.size a ≤ S65536x16x128.size a := fun i v248 k0_hw22 k0_h1 => k0_hw22 k0_h1

def k0_off89 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c22_i32 : BitVec 32 := 22#32
  let v256 : BitVec 32 := Scalar.addi v34 c22_i32
  let v257 : Index := Scalar.indexCast v256
  ![v257.toNat]
def k0_off90 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off91 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c22_i32_142 : BitVec 32 := 22#32
  let v259 : BitVec 32 := Scalar.addi v35 c22_i32_142
  let c0_i32_143 : BitVec 32 := 0#32
  let c0_i32_144 : BitVec 32 := 0#32
  ![v0.toNat, v259.toNat, 0, 0]
def k0_off92 (v258 : BitVec 32) : Fin 3 → Nat :=
  let c0_i32_145 : BitVec 32 := 0#32
  let c0_i32_146 : BitVec 32 := 0#32
  ![v258.toNat, 0, 0]

def k0_chk23 (i : grid0.Coords) (v258 : BitVec 32) : Prop :=
  (∀ (k0_h1 : k0_cond1 i = 1#1), ∀ a, (k0_off92 v258) a + S1x16x128.size a ≤ S65536x16x128.size a)
theorem k0_off92_inb : ∀ (i : grid0.Coords) (v258 : BitVec 32) (k0_hw23 : k0_chk23 i v258), ∀ (k0_h1 : k0_cond1 i = 1#1), ∀ a, (k0_off92 v258) a + S1x16x128.size a ≤ S65536x16x128.size a := fun i v258 k0_hw23 k0_h1 => k0_hw23 k0_h1

def k0_off93 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c23_i32 : BitVec 32 := 23#32
  let v266 : BitVec 32 := Scalar.addi v34 c23_i32
  let v267 : Index := Scalar.indexCast v266
  ![v267.toNat]
def k0_off94 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off95 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c23_i32_147 : BitVec 32 := 23#32
  let v269 : BitVec 32 := Scalar.addi v35 c23_i32_147
  let c0_i32_148 : BitVec 32 := 0#32
  let c0_i32_149 : BitVec 32 := 0#32
  ![v0.toNat, v269.toNat, 0, 0]
def k0_off96 (v268 : BitVec 32) : Fin 3 → Nat :=
  let c0_i32_150 : BitVec 32 := 0#32
  let c0_i32_151 : BitVec 32 := 0#32
  ![v268.toNat, 0, 0]

def k0_chk24 (i : grid0.Coords) (v268 : BitVec 32) : Prop :=
  (∀ (k0_h1 : k0_cond1 i = 1#1), ∀ a, (k0_off96 v268) a + S1x16x128.size a ≤ S65536x16x128.size a)
theorem k0_off96_inb : ∀ (i : grid0.Coords) (v268 : BitVec 32) (k0_hw24 : k0_chk24 i v268), ∀ (k0_h1 : k0_cond1 i = 1#1), ∀ a, (k0_off96 v268) a + S1x16x128.size a ≤ S65536x16x128.size a := fun i v268 k0_hw24 k0_h1 => k0_hw24 k0_h1

def k0_off97 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c24_i32 : BitVec 32 := 24#32
  let v276 : BitVec 32 := Scalar.addi v34 c24_i32
  let v277 : Index := Scalar.indexCast v276
  ![v277.toNat]
def k0_off98 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off99 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c24_i32_152 : BitVec 32 := 24#32
  let v279 : BitVec 32 := Scalar.addi v35 c24_i32_152
  let c0_i32_153 : BitVec 32 := 0#32
  let c0_i32_154 : BitVec 32 := 0#32
  ![v0.toNat, v279.toNat, 0, 0]
def k0_off100 (v278 : BitVec 32) : Fin 3 → Nat :=
  let c0_i32_155 : BitVec 32 := 0#32
  let c0_i32_156 : BitVec 32 := 0#32
  ![v278.toNat, 0, 0]

def k0_chk25 (i : grid0.Coords) (v278 : BitVec 32) : Prop :=
  (∀ (k0_h1 : k0_cond1 i = 1#1), ∀ a, (k0_off100 v278) a + S1x16x128.size a ≤ S65536x16x128.size a)
theorem k0_off100_inb : ∀ (i : grid0.Coords) (v278 : BitVec 32) (k0_hw25 : k0_chk25 i v278), ∀ (k0_h1 : k0_cond1 i = 1#1), ∀ a, (k0_off100 v278) a + S1x16x128.size a ≤ S65536x16x128.size a := fun i v278 k0_hw25 k0_h1 => k0_hw25 k0_h1

def k0_off101 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c25_i32 : BitVec 32 := 25#32
  let v286 : BitVec 32 := Scalar.addi v34 c25_i32
  let v287 : Index := Scalar.indexCast v286
  ![v287.toNat]
def k0_off102 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off103 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c25_i32_157 : BitVec 32 := 25#32
  let v289 : BitVec 32 := Scalar.addi v35 c25_i32_157
  let c0_i32_158 : BitVec 32 := 0#32
  let c0_i32_159 : BitVec 32 := 0#32
  ![v0.toNat, v289.toNat, 0, 0]
def k0_off104 (v288 : BitVec 32) : Fin 3 → Nat :=
  let c0_i32_160 : BitVec 32 := 0#32
  let c0_i32_161 : BitVec 32 := 0#32
  ![v288.toNat, 0, 0]

def k0_chk26 (i : grid0.Coords) (v288 : BitVec 32) : Prop :=
  (∀ (k0_h1 : k0_cond1 i = 1#1), ∀ a, (k0_off104 v288) a + S1x16x128.size a ≤ S65536x16x128.size a)
theorem k0_off104_inb : ∀ (i : grid0.Coords) (v288 : BitVec 32) (k0_hw26 : k0_chk26 i v288), ∀ (k0_h1 : k0_cond1 i = 1#1), ∀ a, (k0_off104 v288) a + S1x16x128.size a ≤ S65536x16x128.size a := fun i v288 k0_hw26 k0_h1 => k0_hw26 k0_h1

def k0_off105 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c26_i32 : BitVec 32 := 26#32
  let v296 : BitVec 32 := Scalar.addi v34 c26_i32
  let v297 : Index := Scalar.indexCast v296
  ![v297.toNat]
def k0_off106 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off107 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c26_i32_162 : BitVec 32 := 26#32
  let v299 : BitVec 32 := Scalar.addi v35 c26_i32_162
  let c0_i32_163 : BitVec 32 := 0#32
  let c0_i32_164 : BitVec 32 := 0#32
  ![v0.toNat, v299.toNat, 0, 0]
def k0_off108 (v298 : BitVec 32) : Fin 3 → Nat :=
  let c0_i32_165 : BitVec 32 := 0#32
  let c0_i32_166 : BitVec 32 := 0#32
  ![v298.toNat, 0, 0]

def k0_chk27 (i : grid0.Coords) (v298 : BitVec 32) : Prop :=
  (∀ (k0_h1 : k0_cond1 i = 1#1), ∀ a, (k0_off108 v298) a + S1x16x128.size a ≤ S65536x16x128.size a)
theorem k0_off108_inb : ∀ (i : grid0.Coords) (v298 : BitVec 32) (k0_hw27 : k0_chk27 i v298), ∀ (k0_h1 : k0_cond1 i = 1#1), ∀ a, (k0_off108 v298) a + S1x16x128.size a ≤ S65536x16x128.size a := fun i v298 k0_hw27 k0_h1 => k0_hw27 k0_h1

def k0_off109 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c27_i32 : BitVec 32 := 27#32
  let v306 : BitVec 32 := Scalar.addi v34 c27_i32
  let v307 : Index := Scalar.indexCast v306
  ![v307.toNat]
def k0_off110 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off111 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c27_i32_167 : BitVec 32 := 27#32
  let v309 : BitVec 32 := Scalar.addi v35 c27_i32_167
  let c0_i32_168 : BitVec 32 := 0#32
  let c0_i32_169 : BitVec 32 := 0#32
  ![v0.toNat, v309.toNat, 0, 0]
def k0_off112 (v308 : BitVec 32) : Fin 3 → Nat :=
  let c0_i32_170 : BitVec 32 := 0#32
  let c0_i32_171 : BitVec 32 := 0#32
  ![v308.toNat, 0, 0]

def k0_chk28 (i : grid0.Coords) (v308 : BitVec 32) : Prop :=
  (∀ (k0_h1 : k0_cond1 i = 1#1), ∀ a, (k0_off112 v308) a + S1x16x128.size a ≤ S65536x16x128.size a)
theorem k0_off112_inb : ∀ (i : grid0.Coords) (v308 : BitVec 32) (k0_hw28 : k0_chk28 i v308), ∀ (k0_h1 : k0_cond1 i = 1#1), ∀ a, (k0_off112 v308) a + S1x16x128.size a ≤ S65536x16x128.size a := fun i v308 k0_hw28 k0_h1 => k0_hw28 k0_h1

def k0_off113 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c28_i32 : BitVec 32 := 28#32
  let v316 : BitVec 32 := Scalar.addi v34 c28_i32
  let v317 : Index := Scalar.indexCast v316
  ![v317.toNat]
def k0_off114 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off115 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c28_i32_172 : BitVec 32 := 28#32
  let v319 : BitVec 32 := Scalar.addi v35 c28_i32_172
  let c0_i32_173 : BitVec 32 := 0#32
  let c0_i32_174 : BitVec 32 := 0#32
  ![v0.toNat, v319.toNat, 0, 0]
def k0_off116 (v318 : BitVec 32) : Fin 3 → Nat :=
  let c0_i32_175 : BitVec 32 := 0#32
  let c0_i32_176 : BitVec 32 := 0#32
  ![v318.toNat, 0, 0]

def k0_chk29 (i : grid0.Coords) (v318 : BitVec 32) : Prop :=
  (∀ (k0_h1 : k0_cond1 i = 1#1), ∀ a, (k0_off116 v318) a + S1x16x128.size a ≤ S65536x16x128.size a)
theorem k0_off116_inb : ∀ (i : grid0.Coords) (v318 : BitVec 32) (k0_hw29 : k0_chk29 i v318), ∀ (k0_h1 : k0_cond1 i = 1#1), ∀ a, (k0_off116 v318) a + S1x16x128.size a ≤ S65536x16x128.size a := fun i v318 k0_hw29 k0_h1 => k0_hw29 k0_h1

def k0_off117 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c29_i32 : BitVec 32 := 29#32
  let v326 : BitVec 32 := Scalar.addi v34 c29_i32
  let v327 : Index := Scalar.indexCast v326
  ![v327.toNat]
def k0_off118 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off119 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c29_i32_177 : BitVec 32 := 29#32
  let v329 : BitVec 32 := Scalar.addi v35 c29_i32_177
  let c0_i32_178 : BitVec 32 := 0#32
  let c0_i32_179 : BitVec 32 := 0#32
  ![v0.toNat, v329.toNat, 0, 0]
def k0_off120 (v328 : BitVec 32) : Fin 3 → Nat :=
  let c0_i32_180 : BitVec 32 := 0#32
  let c0_i32_181 : BitVec 32 := 0#32
  ![v328.toNat, 0, 0]

def k0_chk30 (i : grid0.Coords) (v328 : BitVec 32) : Prop :=
  (∀ (k0_h1 : k0_cond1 i = 1#1), ∀ a, (k0_off120 v328) a + S1x16x128.size a ≤ S65536x16x128.size a)
theorem k0_off120_inb : ∀ (i : grid0.Coords) (v328 : BitVec 32) (k0_hw30 : k0_chk30 i v328), ∀ (k0_h1 : k0_cond1 i = 1#1), ∀ a, (k0_off120 v328) a + S1x16x128.size a ≤ S65536x16x128.size a := fun i v328 k0_hw30 k0_h1 => k0_hw30 k0_h1

def k0_off121 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c30_i32 : BitVec 32 := 30#32
  let v336 : BitVec 32 := Scalar.addi v34 c30_i32
  let v337 : Index := Scalar.indexCast v336
  ![v337.toNat]
def k0_off122 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off123 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c30_i32_182 : BitVec 32 := 30#32
  let v339 : BitVec 32 := Scalar.addi v35 c30_i32_182
  let c0_i32_183 : BitVec 32 := 0#32
  let c0_i32_184 : BitVec 32 := 0#32
  ![v0.toNat, v339.toNat, 0, 0]
def k0_off124 (v338 : BitVec 32) : Fin 3 → Nat :=
  let c0_i32_185 : BitVec 32 := 0#32
  let c0_i32_186 : BitVec 32 := 0#32
  ![v338.toNat, 0, 0]

def k0_chk31 (i : grid0.Coords) (v338 : BitVec 32) : Prop :=
  (∀ (k0_h1 : k0_cond1 i = 1#1), ∀ a, (k0_off124 v338) a + S1x16x128.size a ≤ S65536x16x128.size a)
theorem k0_off124_inb : ∀ (i : grid0.Coords) (v338 : BitVec 32) (k0_hw31 : k0_chk31 i v338), ∀ (k0_h1 : k0_cond1 i = 1#1), ∀ a, (k0_off124 v338) a + S1x16x128.size a ≤ S65536x16x128.size a := fun i v338 k0_hw31 k0_h1 => k0_hw31 k0_h1

def k0_off125 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c31_i32 : BitVec 32 := 31#32
  let v346 : BitVec 32 := Scalar.addi v34 c31_i32
  let v347 : Index := Scalar.indexCast v346
  ![v347.toNat]
def k0_off126 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off127 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c31_i32_187 : BitVec 32 := 31#32
  let v349 : BitVec 32 := Scalar.addi v35 c31_i32_187
  let c0_i32_188 : BitVec 32 := 0#32
  let c0_i32_189 : BitVec 32 := 0#32
  ![v0.toNat, v349.toNat, 0, 0]
def k0_off128 (v348 : BitVec 32) : Fin 3 → Nat :=
  let c0_i32_190 : BitVec 32 := 0#32
  let c0_i32_191 : BitVec 32 := 0#32
  ![v348.toNat, 0, 0]

def k0_chk32 (i : grid0.Coords) (v348 : BitVec 32) : Prop :=
  (∀ (k0_h1 : k0_cond1 i = 1#1), ∀ a, (k0_off128 v348) a + S1x16x128.size a ≤ S65536x16x128.size a)
theorem k0_off128_inb : ∀ (i : grid0.Coords) (v348 : BitVec 32) (k0_hw32 : k0_chk32 i v348), ∀ (k0_h1 : k0_cond1 i = 1#1), ∀ a, (k0_off128 v348) a + S1x16x128.size a ≤ S65536x16x128.size a := fun i v348 k0_hw32 k0_h1 => k0_hw32 k0_h1

def k0_off129 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c32_i32 : BitVec 32 := 32#32
  let v356 : BitVec 32 := Scalar.addi v34 c32_i32
  let v357 : Index := Scalar.indexCast v356
  ![v357.toNat]
def k0_off130 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off131 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c32_i32_192 : BitVec 32 := 32#32
  let v359 : BitVec 32 := Scalar.addi v35 c32_i32_192
  let c0_i32_193 : BitVec 32 := 0#32
  let c0_i32_194 : BitVec 32 := 0#32
  ![v0.toNat, v359.toNat, 0, 0]
def k0_off132 (v358 : BitVec 32) : Fin 3 → Nat :=
  let c0_i32_195 : BitVec 32 := 0#32
  let c0_i32_196 : BitVec 32 := 0#32
  ![v358.toNat, 0, 0]

def k0_chk33 (i : grid0.Coords) (v358 : BitVec 32) : Prop :=
  (∀ (k0_h1 : k0_cond1 i = 1#1), ∀ a, (k0_off132 v358) a + S1x16x128.size a ≤ S65536x16x128.size a)
theorem k0_off132_inb : ∀ (i : grid0.Coords) (v358 : BitVec 32) (k0_hw33 : k0_chk33 i v358), ∀ (k0_h1 : k0_cond1 i = 1#1), ∀ a, (k0_off132 v358) a + S1x16x128.size a ≤ S65536x16x128.size a := fun i v358 k0_hw33 k0_h1 => k0_hw33 k0_h1

def k0_off133 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c33_i32 : BitVec 32 := 33#32
  let v366 : BitVec 32 := Scalar.addi v34 c33_i32
  let v367 : Index := Scalar.indexCast v366
  ![v367.toNat]
def k0_off134 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off135 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c33_i32_197 : BitVec 32 := 33#32
  let v369 : BitVec 32 := Scalar.addi v35 c33_i32_197
  let c0_i32_198 : BitVec 32 := 0#32
  let c0_i32_199 : BitVec 32 := 0#32
  ![v0.toNat, v369.toNat, 0, 0]
def k0_off136 (v368 : BitVec 32) : Fin 3 → Nat :=
  let c0_i32_200 : BitVec 32 := 0#32
  let c0_i32_201 : BitVec 32 := 0#32
  ![v368.toNat, 0, 0]

def k0_chk34 (i : grid0.Coords) (v368 : BitVec 32) : Prop :=
  (∀ (k0_h1 : k0_cond1 i = 1#1), ∀ a, (k0_off136 v368) a + S1x16x128.size a ≤ S65536x16x128.size a)
theorem k0_off136_inb : ∀ (i : grid0.Coords) (v368 : BitVec 32) (k0_hw34 : k0_chk34 i v368), ∀ (k0_h1 : k0_cond1 i = 1#1), ∀ a, (k0_off136 v368) a + S1x16x128.size a ≤ S65536x16x128.size a := fun i v368 k0_hw34 k0_h1 => k0_hw34 k0_h1

def k0_off137 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c34_i32 : BitVec 32 := 34#32
  let v376 : BitVec 32 := Scalar.addi v34 c34_i32
  let v377 : Index := Scalar.indexCast v376
  ![v377.toNat]
def k0_off138 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off139 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c34_i32_202 : BitVec 32 := 34#32
  let v379 : BitVec 32 := Scalar.addi v35 c34_i32_202
  let c0_i32_203 : BitVec 32 := 0#32
  let c0_i32_204 : BitVec 32 := 0#32
  ![v0.toNat, v379.toNat, 0, 0]
def k0_off140 (v378 : BitVec 32) : Fin 3 → Nat :=
  let c0_i32_205 : BitVec 32 := 0#32
  let c0_i32_206 : BitVec 32 := 0#32
  ![v378.toNat, 0, 0]

def k0_chk35 (i : grid0.Coords) (v378 : BitVec 32) : Prop :=
  (∀ (k0_h1 : k0_cond1 i = 1#1), ∀ a, (k0_off140 v378) a + S1x16x128.size a ≤ S65536x16x128.size a)
theorem k0_off140_inb : ∀ (i : grid0.Coords) (v378 : BitVec 32) (k0_hw35 : k0_chk35 i v378), ∀ (k0_h1 : k0_cond1 i = 1#1), ∀ a, (k0_off140 v378) a + S1x16x128.size a ≤ S65536x16x128.size a := fun i v378 k0_hw35 k0_h1 => k0_hw35 k0_h1

def k0_off141 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c35_i32 : BitVec 32 := 35#32
  let v386 : BitVec 32 := Scalar.addi v34 c35_i32
  let v387 : Index := Scalar.indexCast v386
  ![v387.toNat]
def k0_off142 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off143 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c35_i32_207 : BitVec 32 := 35#32
  let v389 : BitVec 32 := Scalar.addi v35 c35_i32_207
  let c0_i32_208 : BitVec 32 := 0#32
  let c0_i32_209 : BitVec 32 := 0#32
  ![v0.toNat, v389.toNat, 0, 0]
def k0_off144 (v388 : BitVec 32) : Fin 3 → Nat :=
  let c0_i32_210 : BitVec 32 := 0#32
  let c0_i32_211 : BitVec 32 := 0#32
  ![v388.toNat, 0, 0]

def k0_chk36 (i : grid0.Coords) (v388 : BitVec 32) : Prop :=
  (∀ (k0_h1 : k0_cond1 i = 1#1), ∀ a, (k0_off144 v388) a + S1x16x128.size a ≤ S65536x16x128.size a)
theorem k0_off144_inb : ∀ (i : grid0.Coords) (v388 : BitVec 32) (k0_hw36 : k0_chk36 i v388), ∀ (k0_h1 : k0_cond1 i = 1#1), ∀ a, (k0_off144 v388) a + S1x16x128.size a ≤ S65536x16x128.size a := fun i v388 k0_hw36 k0_h1 => k0_hw36 k0_h1

def k0_off145 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c36_i32 : BitVec 32 := 36#32
  let v396 : BitVec 32 := Scalar.addi v34 c36_i32
  let v397 : Index := Scalar.indexCast v396
  ![v397.toNat]
def k0_off146 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off147 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c36_i32_212 : BitVec 32 := 36#32
  let v399 : BitVec 32 := Scalar.addi v35 c36_i32_212
  let c0_i32_213 : BitVec 32 := 0#32
  let c0_i32_214 : BitVec 32 := 0#32
  ![v0.toNat, v399.toNat, 0, 0]
def k0_off148 (v398 : BitVec 32) : Fin 3 → Nat :=
  let c0_i32_215 : BitVec 32 := 0#32
  let c0_i32_216 : BitVec 32 := 0#32
  ![v398.toNat, 0, 0]

def k0_chk37 (i : grid0.Coords) (v398 : BitVec 32) : Prop :=
  (∀ (k0_h1 : k0_cond1 i = 1#1), ∀ a, (k0_off148 v398) a + S1x16x128.size a ≤ S65536x16x128.size a)
theorem k0_off148_inb : ∀ (i : grid0.Coords) (v398 : BitVec 32) (k0_hw37 : k0_chk37 i v398), ∀ (k0_h1 : k0_cond1 i = 1#1), ∀ a, (k0_off148 v398) a + S1x16x128.size a ≤ S65536x16x128.size a := fun i v398 k0_hw37 k0_h1 => k0_hw37 k0_h1

def k0_off149 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c37_i32 : BitVec 32 := 37#32
  let v406 : BitVec 32 := Scalar.addi v34 c37_i32
  let v407 : Index := Scalar.indexCast v406
  ![v407.toNat]
def k0_off150 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off151 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c37_i32_217 : BitVec 32 := 37#32
  let v409 : BitVec 32 := Scalar.addi v35 c37_i32_217
  let c0_i32_218 : BitVec 32 := 0#32
  let c0_i32_219 : BitVec 32 := 0#32
  ![v0.toNat, v409.toNat, 0, 0]
def k0_off152 (v408 : BitVec 32) : Fin 3 → Nat :=
  let c0_i32_220 : BitVec 32 := 0#32
  let c0_i32_221 : BitVec 32 := 0#32
  ![v408.toNat, 0, 0]

def k0_chk38 (i : grid0.Coords) (v408 : BitVec 32) : Prop :=
  (∀ (k0_h1 : k0_cond1 i = 1#1), ∀ a, (k0_off152 v408) a + S1x16x128.size a ≤ S65536x16x128.size a)
theorem k0_off152_inb : ∀ (i : grid0.Coords) (v408 : BitVec 32) (k0_hw38 : k0_chk38 i v408), ∀ (k0_h1 : k0_cond1 i = 1#1), ∀ a, (k0_off152 v408) a + S1x16x128.size a ≤ S65536x16x128.size a := fun i v408 k0_hw38 k0_h1 => k0_hw38 k0_h1

def k0_off153 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c38_i32 : BitVec 32 := 38#32
  let v416 : BitVec 32 := Scalar.addi v34 c38_i32
  let v417 : Index := Scalar.indexCast v416
  ![v417.toNat]
def k0_off154 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off155 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c38_i32_222 : BitVec 32 := 38#32
  let v419 : BitVec 32 := Scalar.addi v35 c38_i32_222
  let c0_i32_223 : BitVec 32 := 0#32
  let c0_i32_224 : BitVec 32 := 0#32
  ![v0.toNat, v419.toNat, 0, 0]
def k0_off156 (v418 : BitVec 32) : Fin 3 → Nat :=
  let c0_i32_225 : BitVec 32 := 0#32
  let c0_i32_226 : BitVec 32 := 0#32
  ![v418.toNat, 0, 0]

def k0_chk39 (i : grid0.Coords) (v418 : BitVec 32) : Prop :=
  (∀ (k0_h1 : k0_cond1 i = 1#1), ∀ a, (k0_off156 v418) a + S1x16x128.size a ≤ S65536x16x128.size a)
theorem k0_off156_inb : ∀ (i : grid0.Coords) (v418 : BitVec 32) (k0_hw39 : k0_chk39 i v418), ∀ (k0_h1 : k0_cond1 i = 1#1), ∀ a, (k0_off156 v418) a + S1x16x128.size a ≤ S65536x16x128.size a := fun i v418 k0_hw39 k0_h1 => k0_hw39 k0_h1

def k0_off157 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c39_i32 : BitVec 32 := 39#32
  let v426 : BitVec 32 := Scalar.addi v34 c39_i32
  let v427 : Index := Scalar.indexCast v426
  ![v427.toNat]
def k0_off158 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off159 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c39_i32_227 : BitVec 32 := 39#32
  let v429 : BitVec 32 := Scalar.addi v35 c39_i32_227
  let c0_i32_228 : BitVec 32 := 0#32
  let c0_i32_229 : BitVec 32 := 0#32
  ![v0.toNat, v429.toNat, 0, 0]
def k0_off160 (v428 : BitVec 32) : Fin 3 → Nat :=
  let c0_i32_230 : BitVec 32 := 0#32
  let c0_i32_231 : BitVec 32 := 0#32
  ![v428.toNat, 0, 0]

def k0_chk40 (i : grid0.Coords) (v428 : BitVec 32) : Prop :=
  (∀ (k0_h1 : k0_cond1 i = 1#1), ∀ a, (k0_off160 v428) a + S1x16x128.size a ≤ S65536x16x128.size a)
theorem k0_off160_inb : ∀ (i : grid0.Coords) (v428 : BitVec 32) (k0_hw40 : k0_chk40 i v428), ∀ (k0_h1 : k0_cond1 i = 1#1), ∀ a, (k0_off160 v428) a + S1x16x128.size a ≤ S65536x16x128.size a := fun i v428 k0_hw40 k0_h1 => k0_hw40 k0_h1

def k0_off161 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c40_i32 : BitVec 32 := 40#32
  let v436 : BitVec 32 := Scalar.addi v34 c40_i32
  let v437 : Index := Scalar.indexCast v436
  ![v437.toNat]
def k0_off162 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off163 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c40_i32_232 : BitVec 32 := 40#32
  let v439 : BitVec 32 := Scalar.addi v35 c40_i32_232
  let c0_i32_233 : BitVec 32 := 0#32
  let c0_i32_234 : BitVec 32 := 0#32
  ![v0.toNat, v439.toNat, 0, 0]
def k0_off164 (v438 : BitVec 32) : Fin 3 → Nat :=
  let c0_i32_235 : BitVec 32 := 0#32
  let c0_i32_236 : BitVec 32 := 0#32
  ![v438.toNat, 0, 0]

def k0_chk41 (i : grid0.Coords) (v438 : BitVec 32) : Prop :=
  (∀ (k0_h1 : k0_cond1 i = 1#1), ∀ a, (k0_off164 v438) a + S1x16x128.size a ≤ S65536x16x128.size a)
theorem k0_off164_inb : ∀ (i : grid0.Coords) (v438 : BitVec 32) (k0_hw41 : k0_chk41 i v438), ∀ (k0_h1 : k0_cond1 i = 1#1), ∀ a, (k0_off164 v438) a + S1x16x128.size a ≤ S65536x16x128.size a := fun i v438 k0_hw41 k0_h1 => k0_hw41 k0_h1

def k0_off165 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c41_i32 : BitVec 32 := 41#32
  let v446 : BitVec 32 := Scalar.addi v34 c41_i32
  let v447 : Index := Scalar.indexCast v446
  ![v447.toNat]
def k0_off166 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off167 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c41_i32_237 : BitVec 32 := 41#32
  let v449 : BitVec 32 := Scalar.addi v35 c41_i32_237
  let c0_i32_238 : BitVec 32 := 0#32
  let c0_i32_239 : BitVec 32 := 0#32
  ![v0.toNat, v449.toNat, 0, 0]
def k0_off168 (v448 : BitVec 32) : Fin 3 → Nat :=
  let c0_i32_240 : BitVec 32 := 0#32
  let c0_i32_241 : BitVec 32 := 0#32
  ![v448.toNat, 0, 0]

def k0_chk42 (i : grid0.Coords) (v448 : BitVec 32) : Prop :=
  (∀ (k0_h1 : k0_cond1 i = 1#1), ∀ a, (k0_off168 v448) a + S1x16x128.size a ≤ S65536x16x128.size a)
theorem k0_off168_inb : ∀ (i : grid0.Coords) (v448 : BitVec 32) (k0_hw42 : k0_chk42 i v448), ∀ (k0_h1 : k0_cond1 i = 1#1), ∀ a, (k0_off168 v448) a + S1x16x128.size a ≤ S65536x16x128.size a := fun i v448 k0_hw42 k0_h1 => k0_hw42 k0_h1

def k0_off169 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c42_i32 : BitVec 32 := 42#32
  let v456 : BitVec 32 := Scalar.addi v34 c42_i32
  let v457 : Index := Scalar.indexCast v456
  ![v457.toNat]
def k0_off170 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off171 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c42_i32_242 : BitVec 32 := 42#32
  let v459 : BitVec 32 := Scalar.addi v35 c42_i32_242
  let c0_i32_243 : BitVec 32 := 0#32
  let c0_i32_244 : BitVec 32 := 0#32
  ![v0.toNat, v459.toNat, 0, 0]
def k0_off172 (v458 : BitVec 32) : Fin 3 → Nat :=
  let c0_i32_245 : BitVec 32 := 0#32
  let c0_i32_246 : BitVec 32 := 0#32
  ![v458.toNat, 0, 0]

def k0_chk43 (i : grid0.Coords) (v458 : BitVec 32) : Prop :=
  (∀ (k0_h1 : k0_cond1 i = 1#1), ∀ a, (k0_off172 v458) a + S1x16x128.size a ≤ S65536x16x128.size a)
theorem k0_off172_inb : ∀ (i : grid0.Coords) (v458 : BitVec 32) (k0_hw43 : k0_chk43 i v458), ∀ (k0_h1 : k0_cond1 i = 1#1), ∀ a, (k0_off172 v458) a + S1x16x128.size a ≤ S65536x16x128.size a := fun i v458 k0_hw43 k0_h1 => k0_hw43 k0_h1

def k0_off173 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c43_i32 : BitVec 32 := 43#32
  let v466 : BitVec 32 := Scalar.addi v34 c43_i32
  let v467 : Index := Scalar.indexCast v466
  ![v467.toNat]
def k0_off174 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off175 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c43_i32_247 : BitVec 32 := 43#32
  let v469 : BitVec 32 := Scalar.addi v35 c43_i32_247
  let c0_i32_248 : BitVec 32 := 0#32
  let c0_i32_249 : BitVec 32 := 0#32
  ![v0.toNat, v469.toNat, 0, 0]
def k0_off176 (v468 : BitVec 32) : Fin 3 → Nat :=
  let c0_i32_250 : BitVec 32 := 0#32
  let c0_i32_251 : BitVec 32 := 0#32
  ![v468.toNat, 0, 0]

def k0_chk44 (i : grid0.Coords) (v468 : BitVec 32) : Prop :=
  (∀ (k0_h1 : k0_cond1 i = 1#1), ∀ a, (k0_off176 v468) a + S1x16x128.size a ≤ S65536x16x128.size a)
theorem k0_off176_inb : ∀ (i : grid0.Coords) (v468 : BitVec 32) (k0_hw44 : k0_chk44 i v468), ∀ (k0_h1 : k0_cond1 i = 1#1), ∀ a, (k0_off176 v468) a + S1x16x128.size a ≤ S65536x16x128.size a := fun i v468 k0_hw44 k0_h1 => k0_hw44 k0_h1

def k0_off177 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c44_i32 : BitVec 32 := 44#32
  let v476 : BitVec 32 := Scalar.addi v34 c44_i32
  let v477 : Index := Scalar.indexCast v476
  ![v477.toNat]
def k0_off178 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off179 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c44_i32_252 : BitVec 32 := 44#32
  let v479 : BitVec 32 := Scalar.addi v35 c44_i32_252
  let c0_i32_253 : BitVec 32 := 0#32
  let c0_i32_254 : BitVec 32 := 0#32
  ![v0.toNat, v479.toNat, 0, 0]
def k0_off180 (v478 : BitVec 32) : Fin 3 → Nat :=
  let c0_i32_255 : BitVec 32 := 0#32
  let c0_i32_256 : BitVec 32 := 0#32
  ![v478.toNat, 0, 0]

def k0_chk45 (i : grid0.Coords) (v478 : BitVec 32) : Prop :=
  (∀ (k0_h1 : k0_cond1 i = 1#1), ∀ a, (k0_off180 v478) a + S1x16x128.size a ≤ S65536x16x128.size a)
theorem k0_off180_inb : ∀ (i : grid0.Coords) (v478 : BitVec 32) (k0_hw45 : k0_chk45 i v478), ∀ (k0_h1 : k0_cond1 i = 1#1), ∀ a, (k0_off180 v478) a + S1x16x128.size a ≤ S65536x16x128.size a := fun i v478 k0_hw45 k0_h1 => k0_hw45 k0_h1

def k0_off181 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c45_i32 : BitVec 32 := 45#32
  let v486 : BitVec 32 := Scalar.addi v34 c45_i32
  let v487 : Index := Scalar.indexCast v486
  ![v487.toNat]
def k0_off182 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off183 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c45_i32_257 : BitVec 32 := 45#32
  let v489 : BitVec 32 := Scalar.addi v35 c45_i32_257
  let c0_i32_258 : BitVec 32 := 0#32
  let c0_i32_259 : BitVec 32 := 0#32
  ![v0.toNat, v489.toNat, 0, 0]
def k0_off184 (v488 : BitVec 32) : Fin 3 → Nat :=
  let c0_i32_260 : BitVec 32 := 0#32
  let c0_i32_261 : BitVec 32 := 0#32
  ![v488.toNat, 0, 0]

def k0_chk46 (i : grid0.Coords) (v488 : BitVec 32) : Prop :=
  (∀ (k0_h1 : k0_cond1 i = 1#1), ∀ a, (k0_off184 v488) a + S1x16x128.size a ≤ S65536x16x128.size a)
theorem k0_off184_inb : ∀ (i : grid0.Coords) (v488 : BitVec 32) (k0_hw46 : k0_chk46 i v488), ∀ (k0_h1 : k0_cond1 i = 1#1), ∀ a, (k0_off184 v488) a + S1x16x128.size a ≤ S65536x16x128.size a := fun i v488 k0_hw46 k0_h1 => k0_hw46 k0_h1

def k0_off185 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c46_i32 : BitVec 32 := 46#32
  let v496 : BitVec 32 := Scalar.addi v34 c46_i32
  let v497 : Index := Scalar.indexCast v496
  ![v497.toNat]
def k0_off186 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off187 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c46_i32_262 : BitVec 32 := 46#32
  let v499 : BitVec 32 := Scalar.addi v35 c46_i32_262
  let c0_i32_263 : BitVec 32 := 0#32
  let c0_i32_264 : BitVec 32 := 0#32
  ![v0.toNat, v499.toNat, 0, 0]
def k0_off188 (v498 : BitVec 32) : Fin 3 → Nat :=
  let c0_i32_265 : BitVec 32 := 0#32
  let c0_i32_266 : BitVec 32 := 0#32
  ![v498.toNat, 0, 0]

def k0_chk47 (i : grid0.Coords) (v498 : BitVec 32) : Prop :=
  (∀ (k0_h1 : k0_cond1 i = 1#1), ∀ a, (k0_off188 v498) a + S1x16x128.size a ≤ S65536x16x128.size a)
theorem k0_off188_inb : ∀ (i : grid0.Coords) (v498 : BitVec 32) (k0_hw47 : k0_chk47 i v498), ∀ (k0_h1 : k0_cond1 i = 1#1), ∀ a, (k0_off188 v498) a + S1x16x128.size a ≤ S65536x16x128.size a := fun i v498 k0_hw47 k0_h1 => k0_hw47 k0_h1

def k0_off189 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c47_i32 : BitVec 32 := 47#32
  let v506 : BitVec 32 := Scalar.addi v34 c47_i32
  let v507 : Index := Scalar.indexCast v506
  ![v507.toNat]
def k0_off190 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off191 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c47_i32_267 : BitVec 32 := 47#32
  let v509 : BitVec 32 := Scalar.addi v35 c47_i32_267
  let c0_i32_268 : BitVec 32 := 0#32
  let c0_i32_269 : BitVec 32 := 0#32
  ![v0.toNat, v509.toNat, 0, 0]
def k0_off192 (v508 : BitVec 32) : Fin 3 → Nat :=
  let c0_i32_270 : BitVec 32 := 0#32
  let c0_i32_271 : BitVec 32 := 0#32
  ![v508.toNat, 0, 0]

def k0_chk48 (i : grid0.Coords) (v508 : BitVec 32) : Prop :=
  (∀ (k0_h1 : k0_cond1 i = 1#1), ∀ a, (k0_off192 v508) a + S1x16x128.size a ≤ S65536x16x128.size a)
theorem k0_off192_inb : ∀ (i : grid0.Coords) (v508 : BitVec 32) (k0_hw48 : k0_chk48 i v508), ∀ (k0_h1 : k0_cond1 i = 1#1), ∀ a, (k0_off192 v508) a + S1x16x128.size a ≤ S65536x16x128.size a := fun i v508 k0_hw48 k0_h1 => k0_hw48 k0_h1

def k0_off193 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c48_i32 : BitVec 32 := 48#32
  let v516 : BitVec 32 := Scalar.addi v34 c48_i32
  let v517 : Index := Scalar.indexCast v516
  ![v517.toNat]
def k0_off194 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off195 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c48_i32_272 : BitVec 32 := 48#32
  let v519 : BitVec 32 := Scalar.addi v35 c48_i32_272
  let c0_i32_273 : BitVec 32 := 0#32
  let c0_i32_274 : BitVec 32 := 0#32
  ![v0.toNat, v519.toNat, 0, 0]
def k0_off196 (v518 : BitVec 32) : Fin 3 → Nat :=
  let c0_i32_275 : BitVec 32 := 0#32
  let c0_i32_276 : BitVec 32 := 0#32
  ![v518.toNat, 0, 0]

def k0_chk49 (i : grid0.Coords) (v518 : BitVec 32) : Prop :=
  (∀ (k0_h1 : k0_cond1 i = 1#1), ∀ a, (k0_off196 v518) a + S1x16x128.size a ≤ S65536x16x128.size a)
theorem k0_off196_inb : ∀ (i : grid0.Coords) (v518 : BitVec 32) (k0_hw49 : k0_chk49 i v518), ∀ (k0_h1 : k0_cond1 i = 1#1), ∀ a, (k0_off196 v518) a + S1x16x128.size a ≤ S65536x16x128.size a := fun i v518 k0_hw49 k0_h1 => k0_hw49 k0_h1

def k0_off197 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c49_i32 : BitVec 32 := 49#32
  let v526 : BitVec 32 := Scalar.addi v34 c49_i32
  let v527 : Index := Scalar.indexCast v526
  ![v527.toNat]
def k0_off198 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off199 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c49_i32_277 : BitVec 32 := 49#32
  let v529 : BitVec 32 := Scalar.addi v35 c49_i32_277
  let c0_i32_278 : BitVec 32 := 0#32
  let c0_i32_279 : BitVec 32 := 0#32
  ![v0.toNat, v529.toNat, 0, 0]
def k0_off200 (v528 : BitVec 32) : Fin 3 → Nat :=
  let c0_i32_280 : BitVec 32 := 0#32
  let c0_i32_281 : BitVec 32 := 0#32
  ![v528.toNat, 0, 0]

def k0_chk50 (i : grid0.Coords) (v528 : BitVec 32) : Prop :=
  (∀ (k0_h1 : k0_cond1 i = 1#1), ∀ a, (k0_off200 v528) a + S1x16x128.size a ≤ S65536x16x128.size a)
theorem k0_off200_inb : ∀ (i : grid0.Coords) (v528 : BitVec 32) (k0_hw50 : k0_chk50 i v528), ∀ (k0_h1 : k0_cond1 i = 1#1), ∀ a, (k0_off200 v528) a + S1x16x128.size a ≤ S65536x16x128.size a := fun i v528 k0_hw50 k0_h1 => k0_hw50 k0_h1

def k0_off201 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c50_i32 : BitVec 32 := 50#32
  let v536 : BitVec 32 := Scalar.addi v34 c50_i32
  let v537 : Index := Scalar.indexCast v536
  ![v537.toNat]
def k0_off202 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off203 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c50_i32_282 : BitVec 32 := 50#32
  let v539 : BitVec 32 := Scalar.addi v35 c50_i32_282
  let c0_i32_283 : BitVec 32 := 0#32
  let c0_i32_284 : BitVec 32 := 0#32
  ![v0.toNat, v539.toNat, 0, 0]
def k0_off204 (v538 : BitVec 32) : Fin 3 → Nat :=
  let c0_i32_285 : BitVec 32 := 0#32
  let c0_i32_286 : BitVec 32 := 0#32
  ![v538.toNat, 0, 0]

def k0_chk51 (i : grid0.Coords) (v538 : BitVec 32) : Prop :=
  (∀ (k0_h1 : k0_cond1 i = 1#1), ∀ a, (k0_off204 v538) a + S1x16x128.size a ≤ S65536x16x128.size a)
theorem k0_off204_inb : ∀ (i : grid0.Coords) (v538 : BitVec 32) (k0_hw51 : k0_chk51 i v538), ∀ (k0_h1 : k0_cond1 i = 1#1), ∀ a, (k0_off204 v538) a + S1x16x128.size a ≤ S65536x16x128.size a := fun i v538 k0_hw51 k0_h1 => k0_hw51 k0_h1

def k0_off205 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c51_i32 : BitVec 32 := 51#32
  let v546 : BitVec 32 := Scalar.addi v34 c51_i32
  let v547 : Index := Scalar.indexCast v546
  ![v547.toNat]
def k0_off206 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off207 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c51_i32_287 : BitVec 32 := 51#32
  let v549 : BitVec 32 := Scalar.addi v35 c51_i32_287
  let c0_i32_288 : BitVec 32 := 0#32
  let c0_i32_289 : BitVec 32 := 0#32
  ![v0.toNat, v549.toNat, 0, 0]
def k0_off208 (v548 : BitVec 32) : Fin 3 → Nat :=
  let c0_i32_290 : BitVec 32 := 0#32
  let c0_i32_291 : BitVec 32 := 0#32
  ![v548.toNat, 0, 0]

def k0_chk52 (i : grid0.Coords) (v548 : BitVec 32) : Prop :=
  (∀ (k0_h1 : k0_cond1 i = 1#1), ∀ a, (k0_off208 v548) a + S1x16x128.size a ≤ S65536x16x128.size a)
theorem k0_off208_inb : ∀ (i : grid0.Coords) (v548 : BitVec 32) (k0_hw52 : k0_chk52 i v548), ∀ (k0_h1 : k0_cond1 i = 1#1), ∀ a, (k0_off208 v548) a + S1x16x128.size a ≤ S65536x16x128.size a := fun i v548 k0_hw52 k0_h1 => k0_hw52 k0_h1

def k0_off209 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c52_i32 : BitVec 32 := 52#32
  let v556 : BitVec 32 := Scalar.addi v34 c52_i32
  let v557 : Index := Scalar.indexCast v556
  ![v557.toNat]
def k0_off210 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off211 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c52_i32_292 : BitVec 32 := 52#32
  let v559 : BitVec 32 := Scalar.addi v35 c52_i32_292
  let c0_i32_293 : BitVec 32 := 0#32
  let c0_i32_294 : BitVec 32 := 0#32
  ![v0.toNat, v559.toNat, 0, 0]
def k0_off212 (v558 : BitVec 32) : Fin 3 → Nat :=
  let c0_i32_295 : BitVec 32 := 0#32
  let c0_i32_296 : BitVec 32 := 0#32
  ![v558.toNat, 0, 0]

def k0_chk53 (i : grid0.Coords) (v558 : BitVec 32) : Prop :=
  (∀ (k0_h1 : k0_cond1 i = 1#1), ∀ a, (k0_off212 v558) a + S1x16x128.size a ≤ S65536x16x128.size a)
theorem k0_off212_inb : ∀ (i : grid0.Coords) (v558 : BitVec 32) (k0_hw53 : k0_chk53 i v558), ∀ (k0_h1 : k0_cond1 i = 1#1), ∀ a, (k0_off212 v558) a + S1x16x128.size a ≤ S65536x16x128.size a := fun i v558 k0_hw53 k0_h1 => k0_hw53 k0_h1

def k0_off213 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c53_i32 : BitVec 32 := 53#32
  let v566 : BitVec 32 := Scalar.addi v34 c53_i32
  let v567 : Index := Scalar.indexCast v566
  ![v567.toNat]
def k0_off214 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off215 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c53_i32_297 : BitVec 32 := 53#32
  let v569 : BitVec 32 := Scalar.addi v35 c53_i32_297
  let c0_i32_298 : BitVec 32 := 0#32
  let c0_i32_299 : BitVec 32 := 0#32
  ![v0.toNat, v569.toNat, 0, 0]
def k0_off216 (v568 : BitVec 32) : Fin 3 → Nat :=
  let c0_i32_300 : BitVec 32 := 0#32
  let c0_i32_301 : BitVec 32 := 0#32
  ![v568.toNat, 0, 0]

def k0_chk54 (i : grid0.Coords) (v568 : BitVec 32) : Prop :=
  (∀ (k0_h1 : k0_cond1 i = 1#1), ∀ a, (k0_off216 v568) a + S1x16x128.size a ≤ S65536x16x128.size a)
theorem k0_off216_inb : ∀ (i : grid0.Coords) (v568 : BitVec 32) (k0_hw54 : k0_chk54 i v568), ∀ (k0_h1 : k0_cond1 i = 1#1), ∀ a, (k0_off216 v568) a + S1x16x128.size a ≤ S65536x16x128.size a := fun i v568 k0_hw54 k0_h1 => k0_hw54 k0_h1

def k0_off217 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c54_i32 : BitVec 32 := 54#32
  let v576 : BitVec 32 := Scalar.addi v34 c54_i32
  let v577 : Index := Scalar.indexCast v576
  ![v577.toNat]
def k0_off218 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off219 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c54_i32_302 : BitVec 32 := 54#32
  let v579 : BitVec 32 := Scalar.addi v35 c54_i32_302
  let c0_i32_303 : BitVec 32 := 0#32
  let c0_i32_304 : BitVec 32 := 0#32
  ![v0.toNat, v579.toNat, 0, 0]
def k0_off220 (v578 : BitVec 32) : Fin 3 → Nat :=
  let c0_i32_305 : BitVec 32 := 0#32
  let c0_i32_306 : BitVec 32 := 0#32
  ![v578.toNat, 0, 0]

def k0_chk55 (i : grid0.Coords) (v578 : BitVec 32) : Prop :=
  (∀ (k0_h1 : k0_cond1 i = 1#1), ∀ a, (k0_off220 v578) a + S1x16x128.size a ≤ S65536x16x128.size a)
theorem k0_off220_inb : ∀ (i : grid0.Coords) (v578 : BitVec 32) (k0_hw55 : k0_chk55 i v578), ∀ (k0_h1 : k0_cond1 i = 1#1), ∀ a, (k0_off220 v578) a + S1x16x128.size a ≤ S65536x16x128.size a := fun i v578 k0_hw55 k0_h1 => k0_hw55 k0_h1

def k0_off221 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c55_i32 : BitVec 32 := 55#32
  let v586 : BitVec 32 := Scalar.addi v34 c55_i32
  let v587 : Index := Scalar.indexCast v586
  ![v587.toNat]
def k0_off222 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off223 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c55_i32_307 : BitVec 32 := 55#32
  let v589 : BitVec 32 := Scalar.addi v35 c55_i32_307
  let c0_i32_308 : BitVec 32 := 0#32
  let c0_i32_309 : BitVec 32 := 0#32
  ![v0.toNat, v589.toNat, 0, 0]
def k0_off224 (v588 : BitVec 32) : Fin 3 → Nat :=
  let c0_i32_310 : BitVec 32 := 0#32
  let c0_i32_311 : BitVec 32 := 0#32
  ![v588.toNat, 0, 0]

def k0_chk56 (i : grid0.Coords) (v588 : BitVec 32) : Prop :=
  (∀ (k0_h1 : k0_cond1 i = 1#1), ∀ a, (k0_off224 v588) a + S1x16x128.size a ≤ S65536x16x128.size a)
theorem k0_off224_inb : ∀ (i : grid0.Coords) (v588 : BitVec 32) (k0_hw56 : k0_chk56 i v588), ∀ (k0_h1 : k0_cond1 i = 1#1), ∀ a, (k0_off224 v588) a + S1x16x128.size a ≤ S65536x16x128.size a := fun i v588 k0_hw56 k0_h1 => k0_hw56 k0_h1

def k0_off225 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c56_i32 : BitVec 32 := 56#32
  let v596 : BitVec 32 := Scalar.addi v34 c56_i32
  let v597 : Index := Scalar.indexCast v596
  ![v597.toNat]
def k0_off226 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off227 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c56_i32_312 : BitVec 32 := 56#32
  let v599 : BitVec 32 := Scalar.addi v35 c56_i32_312
  let c0_i32_313 : BitVec 32 := 0#32
  let c0_i32_314 : BitVec 32 := 0#32
  ![v0.toNat, v599.toNat, 0, 0]
def k0_off228 (v598 : BitVec 32) : Fin 3 → Nat :=
  let c0_i32_315 : BitVec 32 := 0#32
  let c0_i32_316 : BitVec 32 := 0#32
  ![v598.toNat, 0, 0]

def k0_chk57 (i : grid0.Coords) (v598 : BitVec 32) : Prop :=
  (∀ (k0_h1 : k0_cond1 i = 1#1), ∀ a, (k0_off228 v598) a + S1x16x128.size a ≤ S65536x16x128.size a)
theorem k0_off228_inb : ∀ (i : grid0.Coords) (v598 : BitVec 32) (k0_hw57 : k0_chk57 i v598), ∀ (k0_h1 : k0_cond1 i = 1#1), ∀ a, (k0_off228 v598) a + S1x16x128.size a ≤ S65536x16x128.size a := fun i v598 k0_hw57 k0_h1 => k0_hw57 k0_h1

def k0_off229 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c57_i32 : BitVec 32 := 57#32
  let v606 : BitVec 32 := Scalar.addi v34 c57_i32
  let v607 : Index := Scalar.indexCast v606
  ![v607.toNat]
def k0_off230 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off231 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c57_i32_317 : BitVec 32 := 57#32
  let v609 : BitVec 32 := Scalar.addi v35 c57_i32_317
  let c0_i32_318 : BitVec 32 := 0#32
  let c0_i32_319 : BitVec 32 := 0#32
  ![v0.toNat, v609.toNat, 0, 0]
def k0_off232 (v608 : BitVec 32) : Fin 3 → Nat :=
  let c0_i32_320 : BitVec 32 := 0#32
  let c0_i32_321 : BitVec 32 := 0#32
  ![v608.toNat, 0, 0]

def k0_chk58 (i : grid0.Coords) (v608 : BitVec 32) : Prop :=
  (∀ (k0_h1 : k0_cond1 i = 1#1), ∀ a, (k0_off232 v608) a + S1x16x128.size a ≤ S65536x16x128.size a)
theorem k0_off232_inb : ∀ (i : grid0.Coords) (v608 : BitVec 32) (k0_hw58 : k0_chk58 i v608), ∀ (k0_h1 : k0_cond1 i = 1#1), ∀ a, (k0_off232 v608) a + S1x16x128.size a ≤ S65536x16x128.size a := fun i v608 k0_hw58 k0_h1 => k0_hw58 k0_h1

def k0_off233 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c58_i32 : BitVec 32 := 58#32
  let v616 : BitVec 32 := Scalar.addi v34 c58_i32
  let v617 : Index := Scalar.indexCast v616
  ![v617.toNat]
def k0_off234 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off235 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c58_i32_322 : BitVec 32 := 58#32
  let v619 : BitVec 32 := Scalar.addi v35 c58_i32_322
  let c0_i32_323 : BitVec 32 := 0#32
  let c0_i32_324 : BitVec 32 := 0#32
  ![v0.toNat, v619.toNat, 0, 0]
def k0_off236 (v618 : BitVec 32) : Fin 3 → Nat :=
  let c0_i32_325 : BitVec 32 := 0#32
  let c0_i32_326 : BitVec 32 := 0#32
  ![v618.toNat, 0, 0]

def k0_chk59 (i : grid0.Coords) (v618 : BitVec 32) : Prop :=
  (∀ (k0_h1 : k0_cond1 i = 1#1), ∀ a, (k0_off236 v618) a + S1x16x128.size a ≤ S65536x16x128.size a)
theorem k0_off236_inb : ∀ (i : grid0.Coords) (v618 : BitVec 32) (k0_hw59 : k0_chk59 i v618), ∀ (k0_h1 : k0_cond1 i = 1#1), ∀ a, (k0_off236 v618) a + S1x16x128.size a ≤ S65536x16x128.size a := fun i v618 k0_hw59 k0_h1 => k0_hw59 k0_h1

def k0_off237 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c59_i32 : BitVec 32 := 59#32
  let v626 : BitVec 32 := Scalar.addi v34 c59_i32
  let v627 : Index := Scalar.indexCast v626
  ![v627.toNat]
def k0_off238 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off239 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c59_i32_327 : BitVec 32 := 59#32
  let v629 : BitVec 32 := Scalar.addi v35 c59_i32_327
  let c0_i32_328 : BitVec 32 := 0#32
  let c0_i32_329 : BitVec 32 := 0#32
  ![v0.toNat, v629.toNat, 0, 0]
def k0_off240 (v628 : BitVec 32) : Fin 3 → Nat :=
  let c0_i32_330 : BitVec 32 := 0#32
  let c0_i32_331 : BitVec 32 := 0#32
  ![v628.toNat, 0, 0]

def k0_chk60 (i : grid0.Coords) (v628 : BitVec 32) : Prop :=
  (∀ (k0_h1 : k0_cond1 i = 1#1), ∀ a, (k0_off240 v628) a + S1x16x128.size a ≤ S65536x16x128.size a)
theorem k0_off240_inb : ∀ (i : grid0.Coords) (v628 : BitVec 32) (k0_hw60 : k0_chk60 i v628), ∀ (k0_h1 : k0_cond1 i = 1#1), ∀ a, (k0_off240 v628) a + S1x16x128.size a ≤ S65536x16x128.size a := fun i v628 k0_hw60 k0_h1 => k0_hw60 k0_h1

def k0_off241 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c60_i32 : BitVec 32 := 60#32
  let v636 : BitVec 32 := Scalar.addi v34 c60_i32
  let v637 : Index := Scalar.indexCast v636
  ![v637.toNat]
def k0_off242 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off243 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c60_i32_332 : BitVec 32 := 60#32
  let v639 : BitVec 32 := Scalar.addi v35 c60_i32_332
  let c0_i32_333 : BitVec 32 := 0#32
  let c0_i32_334 : BitVec 32 := 0#32
  ![v0.toNat, v639.toNat, 0, 0]
def k0_off244 (v638 : BitVec 32) : Fin 3 → Nat :=
  let c0_i32_335 : BitVec 32 := 0#32
  let c0_i32_336 : BitVec 32 := 0#32
  ![v638.toNat, 0, 0]

def k0_chk61 (i : grid0.Coords) (v638 : BitVec 32) : Prop :=
  (∀ (k0_h1 : k0_cond1 i = 1#1), ∀ a, (k0_off244 v638) a + S1x16x128.size a ≤ S65536x16x128.size a)
theorem k0_off244_inb : ∀ (i : grid0.Coords) (v638 : BitVec 32) (k0_hw61 : k0_chk61 i v638), ∀ (k0_h1 : k0_cond1 i = 1#1), ∀ a, (k0_off244 v638) a + S1x16x128.size a ≤ S65536x16x128.size a := fun i v638 k0_hw61 k0_h1 => k0_hw61 k0_h1

def k0_off245 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c61_i32 : BitVec 32 := 61#32
  let v646 : BitVec 32 := Scalar.addi v34 c61_i32
  let v647 : Index := Scalar.indexCast v646
  ![v647.toNat]
def k0_off246 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off247 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c61_i32_337 : BitVec 32 := 61#32
  let v649 : BitVec 32 := Scalar.addi v35 c61_i32_337
  let c0_i32_338 : BitVec 32 := 0#32
  let c0_i32_339 : BitVec 32 := 0#32
  ![v0.toNat, v649.toNat, 0, 0]
def k0_off248 (v648 : BitVec 32) : Fin 3 → Nat :=
  let c0_i32_340 : BitVec 32 := 0#32
  let c0_i32_341 : BitVec 32 := 0#32
  ![v648.toNat, 0, 0]

def k0_chk62 (i : grid0.Coords) (v648 : BitVec 32) : Prop :=
  (∀ (k0_h1 : k0_cond1 i = 1#1), ∀ a, (k0_off248 v648) a + S1x16x128.size a ≤ S65536x16x128.size a)
theorem k0_off248_inb : ∀ (i : grid0.Coords) (v648 : BitVec 32) (k0_hw62 : k0_chk62 i v648), ∀ (k0_h1 : k0_cond1 i = 1#1), ∀ a, (k0_off248 v648) a + S1x16x128.size a ≤ S65536x16x128.size a := fun i v648 k0_hw62 k0_h1 => k0_hw62 k0_h1

def k0_off249 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c62_i32 : BitVec 32 := 62#32
  let v656 : BitVec 32 := Scalar.addi v34 c62_i32
  let v657 : Index := Scalar.indexCast v656
  ![v657.toNat]
def k0_off250 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off251 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c62_i32_342 : BitVec 32 := 62#32
  let v659 : BitVec 32 := Scalar.addi v35 c62_i32_342
  let c0_i32_343 : BitVec 32 := 0#32
  let c0_i32_344 : BitVec 32 := 0#32
  ![v0.toNat, v659.toNat, 0, 0]
def k0_off252 (v658 : BitVec 32) : Fin 3 → Nat :=
  let c0_i32_345 : BitVec 32 := 0#32
  let c0_i32_346 : BitVec 32 := 0#32
  ![v658.toNat, 0, 0]

def k0_chk63 (i : grid0.Coords) (v658 : BitVec 32) : Prop :=
  (∀ (k0_h1 : k0_cond1 i = 1#1), ∀ a, (k0_off252 v658) a + S1x16x128.size a ≤ S65536x16x128.size a)
theorem k0_off252_inb : ∀ (i : grid0.Coords) (v658 : BitVec 32) (k0_hw63 : k0_chk63 i v658), ∀ (k0_h1 : k0_cond1 i = 1#1), ∀ a, (k0_off252 v658) a + S1x16x128.size a ≤ S65536x16x128.size a := fun i v658 k0_hw63 k0_h1 => k0_hw63 k0_h1

def k0_off253 (i : grid0.Coords) (k0_t1 : Fin k0_t1_loop.trips) : Fin 1 → Nat :=
  let arg0 : BitVec 32 := BitVec.ofNat 32 (i 0).val
  let c16_i32_18 : BitVec 32 := 16#32
  let v29 : BitVec 32 := Scalar.muli arg0 c16_i32_18
  let c0_i32_19 : BitVec 32 := 0#32
  let v30 : BitVec 32 := Scalar.addi v29 c0_i32_19
  let c512_i32_20 : BitVec 32 := 512#32
  let v31 : BitVec 32 := Scalar.muli v30 c512_i32_20
  let c0_i32_21 : BitVec 32 := 0#32
  let c1_i32_22 : BitVec 32 := 1#32
  let arg8 : BitVec 32 := Scf.iv c0_i32_21 c1_i32_22 k0_t1
  let c64_i32 : BitVec 32 := 64#32
  let v33 : BitVec 32 := Scalar.muli arg8 c64_i32
  let v34 : BitVec 32 := Scalar.addi v31 v33
  let c63_i32 : BitVec 32 := 63#32
  let v666 : BitVec 32 := Scalar.addi v34 c63_i32
  let v667 : Index := Scalar.indexCast v666
  ![v667.toNat]
def k0_off254 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off255 (i : grid0.Coords) (k0_t1 : Fin k0_t1_loop.trips) : Fin 4 → Nat :=
  let arg1 : BitVec 32 := BitVec.ofNat 32 (i 1).val
  let c4_i32 : BitVec 32 := 4#32
  let v0 : BitVec 32 := Scalar.remsi arg1 c4_i32
  let c0_i32_21 : BitVec 32 := 0#32
  let c1_i32_22 : BitVec 32 := 1#32
  let arg8 : BitVec 32 := Scf.iv c0_i32_21 c1_i32_22 k0_t1
  let c64_i32_24 : BitVec 32 := 64#32
  let v35 : BitVec 32 := Scalar.muli arg8 c64_i32_24
  let c63_i32_347 : BitVec 32 := 63#32
  let v669 : BitVec 32 := Scalar.addi v35 c63_i32_347
  let c0_i32_348 : BitVec 32 := 0#32
  let c0_i32_349 : BitVec 32 := 0#32
  ![v0.toNat, v669.toNat, 0, 0]
def k0_off256 (v668 : BitVec 32) : Fin 3 → Nat :=
  let c0_i32_350 : BitVec 32 := 0#32
  let c0_i32_351 : BitVec 32 := 0#32
  ![v668.toNat, 0, 0]

def k0_chk64 (i : grid0.Coords) (v668 : BitVec 32) : Prop :=
  (∀ (k0_h1 : k0_cond1 i = 1#1), ∀ a, (k0_off256 v668) a + S1x16x128.size a ≤ S65536x16x128.size a)
theorem k0_off256_inb : ∀ (i : grid0.Coords) (v668 : BitVec 32) (k0_hw64 : k0_chk64 i v668), ∀ (k0_h1 : k0_cond1 i = 1#1), ∀ a, (k0_off256 v668) a + S1x16x128.size a ≤ S65536x16x128.size a := fun i v668 k0_hw64 k0_h1 => k0_hw64 k0_h1

def k0_cond2 (i : grid0.Coords) : BitVec 1 :=
  let arg1 : BitVec 32 := BitVec.ofNat 32 (i 1).val
  let c3_i32 : BitVec 32 := 3#32
  let v6 : BitVec 1 := Scalar.cmpi .sge arg1 c3_i32
  let v7 : BitVec 32 := Scalar.extui v6
  let c0_i32_2 : BitVec 32 := 0#32
  let v8 : BitVec 1 := Scalar.cmpi .ne v7 c0_i32_2
  v8

def k0_off257 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off258 (i : grid0.Coords) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c0_i32_22 : BitVec 32 := 0#32
  let c0_i32_23 : BitVec 32 := 0#32
  ![v2.toNat, 0, 0, 0]
def k0_cond3 (i : grid0.Coords) : BitVec 1 :=
  let arg1 : BitVec 32 := BitVec.ofNat 32 (i 1).val
  let c1_i32_3 : BitVec 32 := 1#32
  let v9 : BitVec 32 := Scalar.addi arg1 c1_i32_3
  let c16_i32 : BitVec 32 := 16#32
  let v10 : BitVec 1 := Scalar.cmpi .slt v9 c16_i32
  let v11 : BitVec 32 := Scalar.extui v10
  let c0_i32_4 : BitVec 32 := 0#32
  let v12 : BitVec 1 := Scalar.cmpi .ne v11 c0_i32_4
  v12

@[reducible] def k0_t2_loop : Scf.Loop 32 :=
  let c0_i32_21 : BitVec 32 := 0#32
  let c8_i32 : BitVec 32 := 8#32
  let v33 : BitVec 32 := Scalar.addi c0_i32_21 c8_i32
  let c1_i32_22 : BitVec 32 := 1#32
  ⟨c0_i32_21, v33, c1_i32_22⟩
def k0_off259 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c0_i32_25 : BitVec 32 := 0#32
  let v37 : BitVec 32 := Scalar.addi v35 c0_i32_25
  let v38 : Index := Scalar.indexCast v37
  ![v38.toNat]
def k0_off260 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off261 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c0_i32_26 : BitVec 32 := 0#32
  let v40 : BitVec 32 := Scalar.addi v36 c0_i32_26
  let c0_i32_27 : BitVec 32 := 0#32
  let c0_i32_28 : BitVec 32 := 0#32
  ![v2.toNat, v40.toNat, 0, 0]
def k0_off262 (v39 : BitVec 32) : Fin 3 → Nat :=
  let c0_i32_29 : BitVec 32 := 0#32
  let c0_i32_30 : BitVec 32 := 0#32
  ![v39.toNat, 0, 0]

def k0_chk65 (i : grid0.Coords) (v39 : BitVec 32) : Prop :=
  (∀ (k0_h3 : k0_cond3 i = 1#1), ∀ a, (k0_off262 v39) a + S1x16x128.size a ≤ S65536x16x128.size a)
theorem k0_off262_inb : ∀ (i : grid0.Coords) (v39 : BitVec 32) (k0_hw65 : k0_chk65 i v39), ∀ (k0_h3 : k0_cond3 i = 1#1), ∀ a, (k0_off262 v39) a + S1x16x128.size a ≤ S65536x16x128.size a := fun i v39 k0_hw65 k0_h3 => k0_hw65 k0_h3

def k0_off263 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c1_i32_31 : BitVec 32 := 1#32
  let v47 : BitVec 32 := Scalar.addi v35 c1_i32_31
  let v48 : Index := Scalar.indexCast v47
  ![v48.toNat]
def k0_off264 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off265 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c1_i32_32 : BitVec 32 := 1#32
  let v50 : BitVec 32 := Scalar.addi v36 c1_i32_32
  let c0_i32_33 : BitVec 32 := 0#32
  let c0_i32_34 : BitVec 32 := 0#32
  ![v2.toNat, v50.toNat, 0, 0]
def k0_off266 (v49 : BitVec 32) : Fin 3 → Nat :=
  let c0_i32_35 : BitVec 32 := 0#32
  let c0_i32_36 : BitVec 32 := 0#32
  ![v49.toNat, 0, 0]

def k0_chk66 (i : grid0.Coords) (v49 : BitVec 32) : Prop :=
  (∀ (k0_h3 : k0_cond3 i = 1#1), ∀ a, (k0_off266 v49) a + S1x16x128.size a ≤ S65536x16x128.size a)
theorem k0_off266_inb : ∀ (i : grid0.Coords) (v49 : BitVec 32) (k0_hw66 : k0_chk66 i v49), ∀ (k0_h3 : k0_cond3 i = 1#1), ∀ a, (k0_off266 v49) a + S1x16x128.size a ≤ S65536x16x128.size a := fun i v49 k0_hw66 k0_h3 => k0_hw66 k0_h3

def k0_off267 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c2_i32 : BitVec 32 := 2#32
  let v57 : BitVec 32 := Scalar.addi v35 c2_i32
  let v58 : Index := Scalar.indexCast v57
  ![v58.toNat]
def k0_off268 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off269 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c2_i32_37 : BitVec 32 := 2#32
  let v60 : BitVec 32 := Scalar.addi v36 c2_i32_37
  let c0_i32_38 : BitVec 32 := 0#32
  let c0_i32_39 : BitVec 32 := 0#32
  ![v2.toNat, v60.toNat, 0, 0]
def k0_off270 (v59 : BitVec 32) : Fin 3 → Nat :=
  let c0_i32_40 : BitVec 32 := 0#32
  let c0_i32_41 : BitVec 32 := 0#32
  ![v59.toNat, 0, 0]

def k0_chk67 (i : grid0.Coords) (v59 : BitVec 32) : Prop :=
  (∀ (k0_h3 : k0_cond3 i = 1#1), ∀ a, (k0_off270 v59) a + S1x16x128.size a ≤ S65536x16x128.size a)
theorem k0_off270_inb : ∀ (i : grid0.Coords) (v59 : BitVec 32) (k0_hw67 : k0_chk67 i v59), ∀ (k0_h3 : k0_cond3 i = 1#1), ∀ a, (k0_off270 v59) a + S1x16x128.size a ≤ S65536x16x128.size a := fun i v59 k0_hw67 k0_h3 => k0_hw67 k0_h3

def k0_off271 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c3_i32_42 : BitVec 32 := 3#32
  let v67 : BitVec 32 := Scalar.addi v35 c3_i32_42
  let v68 : Index := Scalar.indexCast v67
  ![v68.toNat]
def k0_off272 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off273 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c3_i32_43 : BitVec 32 := 3#32
  let v70 : BitVec 32 := Scalar.addi v36 c3_i32_43
  let c0_i32_44 : BitVec 32 := 0#32
  let c0_i32_45 : BitVec 32 := 0#32
  ![v2.toNat, v70.toNat, 0, 0]
def k0_off274 (v69 : BitVec 32) : Fin 3 → Nat :=
  let c0_i32_46 : BitVec 32 := 0#32
  let c0_i32_47 : BitVec 32 := 0#32
  ![v69.toNat, 0, 0]

def k0_chk68 (i : grid0.Coords) (v69 : BitVec 32) : Prop :=
  (∀ (k0_h3 : k0_cond3 i = 1#1), ∀ a, (k0_off274 v69) a + S1x16x128.size a ≤ S65536x16x128.size a)
theorem k0_off274_inb : ∀ (i : grid0.Coords) (v69 : BitVec 32) (k0_hw68 : k0_chk68 i v69), ∀ (k0_h3 : k0_cond3 i = 1#1), ∀ a, (k0_off274 v69) a + S1x16x128.size a ≤ S65536x16x128.size a := fun i v69 k0_hw68 k0_h3 => k0_hw68 k0_h3

def k0_off275 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c4_i32_48 : BitVec 32 := 4#32
  let v77 : BitVec 32 := Scalar.addi v35 c4_i32_48
  let v78 : Index := Scalar.indexCast v77
  ![v78.toNat]
def k0_off276 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off277 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c4_i32_49 : BitVec 32 := 4#32
  let v80 : BitVec 32 := Scalar.addi v36 c4_i32_49
  let c0_i32_50 : BitVec 32 := 0#32
  let c0_i32_51 : BitVec 32 := 0#32
  ![v2.toNat, v80.toNat, 0, 0]
def k0_off278 (v79 : BitVec 32) : Fin 3 → Nat :=
  let c0_i32_52 : BitVec 32 := 0#32
  let c0_i32_53 : BitVec 32 := 0#32
  ![v79.toNat, 0, 0]

def k0_chk69 (i : grid0.Coords) (v79 : BitVec 32) : Prop :=
  (∀ (k0_h3 : k0_cond3 i = 1#1), ∀ a, (k0_off278 v79) a + S1x16x128.size a ≤ S65536x16x128.size a)
theorem k0_off278_inb : ∀ (i : grid0.Coords) (v79 : BitVec 32) (k0_hw69 : k0_chk69 i v79), ∀ (k0_h3 : k0_cond3 i = 1#1), ∀ a, (k0_off278 v79) a + S1x16x128.size a ≤ S65536x16x128.size a := fun i v79 k0_hw69 k0_h3 => k0_hw69 k0_h3

def k0_off279 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c5_i32 : BitVec 32 := 5#32
  let v87 : BitVec 32 := Scalar.addi v35 c5_i32
  let v88 : Index := Scalar.indexCast v87
  ![v88.toNat]
def k0_off280 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off281 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c5_i32_54 : BitVec 32 := 5#32
  let v90 : BitVec 32 := Scalar.addi v36 c5_i32_54
  let c0_i32_55 : BitVec 32 := 0#32
  let c0_i32_56 : BitVec 32 := 0#32
  ![v2.toNat, v90.toNat, 0, 0]
def k0_off282 (v89 : BitVec 32) : Fin 3 → Nat :=
  let c0_i32_57 : BitVec 32 := 0#32
  let c0_i32_58 : BitVec 32 := 0#32
  ![v89.toNat, 0, 0]

def k0_chk70 (i : grid0.Coords) (v89 : BitVec 32) : Prop :=
  (∀ (k0_h3 : k0_cond3 i = 1#1), ∀ a, (k0_off282 v89) a + S1x16x128.size a ≤ S65536x16x128.size a)
theorem k0_off282_inb : ∀ (i : grid0.Coords) (v89 : BitVec 32) (k0_hw70 : k0_chk70 i v89), ∀ (k0_h3 : k0_cond3 i = 1#1), ∀ a, (k0_off282 v89) a + S1x16x128.size a ≤ S65536x16x128.size a := fun i v89 k0_hw70 k0_h3 => k0_hw70 k0_h3

def k0_off283 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c6_i32 : BitVec 32 := 6#32
  let v97 : BitVec 32 := Scalar.addi v35 c6_i32
  let v98 : Index := Scalar.indexCast v97
  ![v98.toNat]
def k0_off284 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off285 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c6_i32_59 : BitVec 32 := 6#32
  let v100 : BitVec 32 := Scalar.addi v36 c6_i32_59
  let c0_i32_60 : BitVec 32 := 0#32
  let c0_i32_61 : BitVec 32 := 0#32
  ![v2.toNat, v100.toNat, 0, 0]
def k0_off286 (v99 : BitVec 32) : Fin 3 → Nat :=
  let c0_i32_62 : BitVec 32 := 0#32
  let c0_i32_63 : BitVec 32 := 0#32
  ![v99.toNat, 0, 0]

def k0_chk71 (i : grid0.Coords) (v99 : BitVec 32) : Prop :=
  (∀ (k0_h3 : k0_cond3 i = 1#1), ∀ a, (k0_off286 v99) a + S1x16x128.size a ≤ S65536x16x128.size a)
theorem k0_off286_inb : ∀ (i : grid0.Coords) (v99 : BitVec 32) (k0_hw71 : k0_chk71 i v99), ∀ (k0_h3 : k0_cond3 i = 1#1), ∀ a, (k0_off286 v99) a + S1x16x128.size a ≤ S65536x16x128.size a := fun i v99 k0_hw71 k0_h3 => k0_hw71 k0_h3

def k0_off287 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c7_i32 : BitVec 32 := 7#32
  let v107 : BitVec 32 := Scalar.addi v35 c7_i32
  let v108 : Index := Scalar.indexCast v107
  ![v108.toNat]
def k0_off288 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off289 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c7_i32_64 : BitVec 32 := 7#32
  let v110 : BitVec 32 := Scalar.addi v36 c7_i32_64
  let c0_i32_65 : BitVec 32 := 0#32
  let c0_i32_66 : BitVec 32 := 0#32
  ![v2.toNat, v110.toNat, 0, 0]
def k0_off290 (v109 : BitVec 32) : Fin 3 → Nat :=
  let c0_i32_67 : BitVec 32 := 0#32
  let c0_i32_68 : BitVec 32 := 0#32
  ![v109.toNat, 0, 0]

def k0_chk72 (i : grid0.Coords) (v109 : BitVec 32) : Prop :=
  (∀ (k0_h3 : k0_cond3 i = 1#1), ∀ a, (k0_off290 v109) a + S1x16x128.size a ≤ S65536x16x128.size a)
theorem k0_off290_inb : ∀ (i : grid0.Coords) (v109 : BitVec 32) (k0_hw72 : k0_chk72 i v109), ∀ (k0_h3 : k0_cond3 i = 1#1), ∀ a, (k0_off290 v109) a + S1x16x128.size a ≤ S65536x16x128.size a := fun i v109 k0_hw72 k0_h3 => k0_hw72 k0_h3

def k0_off291 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c8_i32_69 : BitVec 32 := 8#32
  let v117 : BitVec 32 := Scalar.addi v35 c8_i32_69
  let v118 : Index := Scalar.indexCast v117
  ![v118.toNat]
def k0_off292 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off293 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c8_i32_70 : BitVec 32 := 8#32
  let v120 : BitVec 32 := Scalar.addi v36 c8_i32_70
  let c0_i32_71 : BitVec 32 := 0#32
  let c0_i32_72 : BitVec 32 := 0#32
  ![v2.toNat, v120.toNat, 0, 0]
def k0_off294 (v119 : BitVec 32) : Fin 3 → Nat :=
  let c0_i32_73 : BitVec 32 := 0#32
  let c0_i32_74 : BitVec 32 := 0#32
  ![v119.toNat, 0, 0]

def k0_chk73 (i : grid0.Coords) (v119 : BitVec 32) : Prop :=
  (∀ (k0_h3 : k0_cond3 i = 1#1), ∀ a, (k0_off294 v119) a + S1x16x128.size a ≤ S65536x16x128.size a)
theorem k0_off294_inb : ∀ (i : grid0.Coords) (v119 : BitVec 32) (k0_hw73 : k0_chk73 i v119), ∀ (k0_h3 : k0_cond3 i = 1#1), ∀ a, (k0_off294 v119) a + S1x16x128.size a ≤ S65536x16x128.size a := fun i v119 k0_hw73 k0_h3 => k0_hw73 k0_h3

def k0_off295 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c9_i32 : BitVec 32 := 9#32
  let v127 : BitVec 32 := Scalar.addi v35 c9_i32
  let v128 : Index := Scalar.indexCast v127
  ![v128.toNat]
def k0_off296 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off297 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c9_i32_75 : BitVec 32 := 9#32
  let v130 : BitVec 32 := Scalar.addi v36 c9_i32_75
  let c0_i32_76 : BitVec 32 := 0#32
  let c0_i32_77 : BitVec 32 := 0#32
  ![v2.toNat, v130.toNat, 0, 0]
def k0_off298 (v129 : BitVec 32) : Fin 3 → Nat :=
  let c0_i32_78 : BitVec 32 := 0#32
  let c0_i32_79 : BitVec 32 := 0#32
  ![v129.toNat, 0, 0]

def k0_chk74 (i : grid0.Coords) (v129 : BitVec 32) : Prop :=
  (∀ (k0_h3 : k0_cond3 i = 1#1), ∀ a, (k0_off298 v129) a + S1x16x128.size a ≤ S65536x16x128.size a)
theorem k0_off298_inb : ∀ (i : grid0.Coords) (v129 : BitVec 32) (k0_hw74 : k0_chk74 i v129), ∀ (k0_h3 : k0_cond3 i = 1#1), ∀ a, (k0_off298 v129) a + S1x16x128.size a ≤ S65536x16x128.size a := fun i v129 k0_hw74 k0_h3 => k0_hw74 k0_h3

def k0_off299 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c10_i32 : BitVec 32 := 10#32
  let v137 : BitVec 32 := Scalar.addi v35 c10_i32
  let v138 : Index := Scalar.indexCast v137
  ![v138.toNat]
def k0_off300 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off301 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c10_i32_80 : BitVec 32 := 10#32
  let v140 : BitVec 32 := Scalar.addi v36 c10_i32_80
  let c0_i32_81 : BitVec 32 := 0#32
  let c0_i32_82 : BitVec 32 := 0#32
  ![v2.toNat, v140.toNat, 0, 0]
def k0_off302 (v139 : BitVec 32) : Fin 3 → Nat :=
  let c0_i32_83 : BitVec 32 := 0#32
  let c0_i32_84 : BitVec 32 := 0#32
  ![v139.toNat, 0, 0]

def k0_chk75 (i : grid0.Coords) (v139 : BitVec 32) : Prop :=
  (∀ (k0_h3 : k0_cond3 i = 1#1), ∀ a, (k0_off302 v139) a + S1x16x128.size a ≤ S65536x16x128.size a)
theorem k0_off302_inb : ∀ (i : grid0.Coords) (v139 : BitVec 32) (k0_hw75 : k0_chk75 i v139), ∀ (k0_h3 : k0_cond3 i = 1#1), ∀ a, (k0_off302 v139) a + S1x16x128.size a ≤ S65536x16x128.size a := fun i v139 k0_hw75 k0_h3 => k0_hw75 k0_h3

def k0_off303 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c11_i32 : BitVec 32 := 11#32
  let v147 : BitVec 32 := Scalar.addi v35 c11_i32
  let v148 : Index := Scalar.indexCast v147
  ![v148.toNat]
def k0_off304 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off305 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c11_i32_85 : BitVec 32 := 11#32
  let v150 : BitVec 32 := Scalar.addi v36 c11_i32_85
  let c0_i32_86 : BitVec 32 := 0#32
  let c0_i32_87 : BitVec 32 := 0#32
  ![v2.toNat, v150.toNat, 0, 0]
def k0_off306 (v149 : BitVec 32) : Fin 3 → Nat :=
  let c0_i32_88 : BitVec 32 := 0#32
  let c0_i32_89 : BitVec 32 := 0#32
  ![v149.toNat, 0, 0]

def k0_chk76 (i : grid0.Coords) (v149 : BitVec 32) : Prop :=
  (∀ (k0_h3 : k0_cond3 i = 1#1), ∀ a, (k0_off306 v149) a + S1x16x128.size a ≤ S65536x16x128.size a)
theorem k0_off306_inb : ∀ (i : grid0.Coords) (v149 : BitVec 32) (k0_hw76 : k0_chk76 i v149), ∀ (k0_h3 : k0_cond3 i = 1#1), ∀ a, (k0_off306 v149) a + S1x16x128.size a ≤ S65536x16x128.size a := fun i v149 k0_hw76 k0_h3 => k0_hw76 k0_h3

def k0_off307 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c12_i32 : BitVec 32 := 12#32
  let v157 : BitVec 32 := Scalar.addi v35 c12_i32
  let v158 : Index := Scalar.indexCast v157
  ![v158.toNat]
def k0_off308 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off309 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c12_i32_90 : BitVec 32 := 12#32
  let v160 : BitVec 32 := Scalar.addi v36 c12_i32_90
  let c0_i32_91 : BitVec 32 := 0#32
  let c0_i32_92 : BitVec 32 := 0#32
  ![v2.toNat, v160.toNat, 0, 0]
def k0_off310 (v159 : BitVec 32) : Fin 3 → Nat :=
  let c0_i32_93 : BitVec 32 := 0#32
  let c0_i32_94 : BitVec 32 := 0#32
  ![v159.toNat, 0, 0]

def k0_chk77 (i : grid0.Coords) (v159 : BitVec 32) : Prop :=
  (∀ (k0_h3 : k0_cond3 i = 1#1), ∀ a, (k0_off310 v159) a + S1x16x128.size a ≤ S65536x16x128.size a)
theorem k0_off310_inb : ∀ (i : grid0.Coords) (v159 : BitVec 32) (k0_hw77 : k0_chk77 i v159), ∀ (k0_h3 : k0_cond3 i = 1#1), ∀ a, (k0_off310 v159) a + S1x16x128.size a ≤ S65536x16x128.size a := fun i v159 k0_hw77 k0_h3 => k0_hw77 k0_h3

def k0_off311 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c13_i32 : BitVec 32 := 13#32
  let v167 : BitVec 32 := Scalar.addi v35 c13_i32
  let v168 : Index := Scalar.indexCast v167
  ![v168.toNat]
def k0_off312 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off313 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c13_i32_95 : BitVec 32 := 13#32
  let v170 : BitVec 32 := Scalar.addi v36 c13_i32_95
  let c0_i32_96 : BitVec 32 := 0#32
  let c0_i32_97 : BitVec 32 := 0#32
  ![v2.toNat, v170.toNat, 0, 0]
def k0_off314 (v169 : BitVec 32) : Fin 3 → Nat :=
  let c0_i32_98 : BitVec 32 := 0#32
  let c0_i32_99 : BitVec 32 := 0#32
  ![v169.toNat, 0, 0]

def k0_chk78 (i : grid0.Coords) (v169 : BitVec 32) : Prop :=
  (∀ (k0_h3 : k0_cond3 i = 1#1), ∀ a, (k0_off314 v169) a + S1x16x128.size a ≤ S65536x16x128.size a)
theorem k0_off314_inb : ∀ (i : grid0.Coords) (v169 : BitVec 32) (k0_hw78 : k0_chk78 i v169), ∀ (k0_h3 : k0_cond3 i = 1#1), ∀ a, (k0_off314 v169) a + S1x16x128.size a ≤ S65536x16x128.size a := fun i v169 k0_hw78 k0_h3 => k0_hw78 k0_h3

def k0_off315 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c14_i32 : BitVec 32 := 14#32
  let v177 : BitVec 32 := Scalar.addi v35 c14_i32
  let v178 : Index := Scalar.indexCast v177
  ![v178.toNat]
def k0_off316 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off317 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c14_i32_100 : BitVec 32 := 14#32
  let v180 : BitVec 32 := Scalar.addi v36 c14_i32_100
  let c0_i32_101 : BitVec 32 := 0#32
  let c0_i32_102 : BitVec 32 := 0#32
  ![v2.toNat, v180.toNat, 0, 0]
def k0_off318 (v179 : BitVec 32) : Fin 3 → Nat :=
  let c0_i32_103 : BitVec 32 := 0#32
  let c0_i32_104 : BitVec 32 := 0#32
  ![v179.toNat, 0, 0]

def k0_chk79 (i : grid0.Coords) (v179 : BitVec 32) : Prop :=
  (∀ (k0_h3 : k0_cond3 i = 1#1), ∀ a, (k0_off318 v179) a + S1x16x128.size a ≤ S65536x16x128.size a)
theorem k0_off318_inb : ∀ (i : grid0.Coords) (v179 : BitVec 32) (k0_hw79 : k0_chk79 i v179), ∀ (k0_h3 : k0_cond3 i = 1#1), ∀ a, (k0_off318 v179) a + S1x16x128.size a ≤ S65536x16x128.size a := fun i v179 k0_hw79 k0_h3 => k0_hw79 k0_h3

def k0_off319 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c15_i32_105 : BitVec 32 := 15#32
  let v187 : BitVec 32 := Scalar.addi v35 c15_i32_105
  let v188 : Index := Scalar.indexCast v187
  ![v188.toNat]
def k0_off320 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off321 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c15_i32_106 : BitVec 32 := 15#32
  let v190 : BitVec 32 := Scalar.addi v36 c15_i32_106
  let c0_i32_107 : BitVec 32 := 0#32
  let c0_i32_108 : BitVec 32 := 0#32
  ![v2.toNat, v190.toNat, 0, 0]
def k0_off322 (v189 : BitVec 32) : Fin 3 → Nat :=
  let c0_i32_109 : BitVec 32 := 0#32
  let c0_i32_110 : BitVec 32 := 0#32
  ![v189.toNat, 0, 0]

def k0_chk80 (i : grid0.Coords) (v189 : BitVec 32) : Prop :=
  (∀ (k0_h3 : k0_cond3 i = 1#1), ∀ a, (k0_off322 v189) a + S1x16x128.size a ≤ S65536x16x128.size a)
theorem k0_off322_inb : ∀ (i : grid0.Coords) (v189 : BitVec 32) (k0_hw80 : k0_chk80 i v189), ∀ (k0_h3 : k0_cond3 i = 1#1), ∀ a, (k0_off322 v189) a + S1x16x128.size a ≤ S65536x16x128.size a := fun i v189 k0_hw80 k0_h3 => k0_hw80 k0_h3

def k0_off323 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c16_i32_111 : BitVec 32 := 16#32
  let v197 : BitVec 32 := Scalar.addi v35 c16_i32_111
  let v198 : Index := Scalar.indexCast v197
  ![v198.toNat]
def k0_off324 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off325 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c16_i32_112 : BitVec 32 := 16#32
  let v200 : BitVec 32 := Scalar.addi v36 c16_i32_112
  let c0_i32_113 : BitVec 32 := 0#32
  let c0_i32_114 : BitVec 32 := 0#32
  ![v2.toNat, v200.toNat, 0, 0]
def k0_off326 (v199 : BitVec 32) : Fin 3 → Nat :=
  let c0_i32_115 : BitVec 32 := 0#32
  let c0_i32_116 : BitVec 32 := 0#32
  ![v199.toNat, 0, 0]

def k0_chk81 (i : grid0.Coords) (v199 : BitVec 32) : Prop :=
  (∀ (k0_h3 : k0_cond3 i = 1#1), ∀ a, (k0_off326 v199) a + S1x16x128.size a ≤ S65536x16x128.size a)
theorem k0_off326_inb : ∀ (i : grid0.Coords) (v199 : BitVec 32) (k0_hw81 : k0_chk81 i v199), ∀ (k0_h3 : k0_cond3 i = 1#1), ∀ a, (k0_off326 v199) a + S1x16x128.size a ≤ S65536x16x128.size a := fun i v199 k0_hw81 k0_h3 => k0_hw81 k0_h3

def k0_off327 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c17_i32 : BitVec 32 := 17#32
  let v207 : BitVec 32 := Scalar.addi v35 c17_i32
  let v208 : Index := Scalar.indexCast v207
  ![v208.toNat]
def k0_off328 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off329 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c17_i32_117 : BitVec 32 := 17#32
  let v210 : BitVec 32 := Scalar.addi v36 c17_i32_117
  let c0_i32_118 : BitVec 32 := 0#32
  let c0_i32_119 : BitVec 32 := 0#32
  ![v2.toNat, v210.toNat, 0, 0]
def k0_off330 (v209 : BitVec 32) : Fin 3 → Nat :=
  let c0_i32_120 : BitVec 32 := 0#32
  let c0_i32_121 : BitVec 32 := 0#32
  ![v209.toNat, 0, 0]

def k0_chk82 (i : grid0.Coords) (v209 : BitVec 32) : Prop :=
  (∀ (k0_h3 : k0_cond3 i = 1#1), ∀ a, (k0_off330 v209) a + S1x16x128.size a ≤ S65536x16x128.size a)
theorem k0_off330_inb : ∀ (i : grid0.Coords) (v209 : BitVec 32) (k0_hw82 : k0_chk82 i v209), ∀ (k0_h3 : k0_cond3 i = 1#1), ∀ a, (k0_off330 v209) a + S1x16x128.size a ≤ S65536x16x128.size a := fun i v209 k0_hw82 k0_h3 => k0_hw82 k0_h3

def k0_off331 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c18_i32 : BitVec 32 := 18#32
  let v217 : BitVec 32 := Scalar.addi v35 c18_i32
  let v218 : Index := Scalar.indexCast v217
  ![v218.toNat]
def k0_off332 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off333 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c18_i32_122 : BitVec 32 := 18#32
  let v220 : BitVec 32 := Scalar.addi v36 c18_i32_122
  let c0_i32_123 : BitVec 32 := 0#32
  let c0_i32_124 : BitVec 32 := 0#32
  ![v2.toNat, v220.toNat, 0, 0]
def k0_off334 (v219 : BitVec 32) : Fin 3 → Nat :=
  let c0_i32_125 : BitVec 32 := 0#32
  let c0_i32_126 : BitVec 32 := 0#32
  ![v219.toNat, 0, 0]

def k0_chk83 (i : grid0.Coords) (v219 : BitVec 32) : Prop :=
  (∀ (k0_h3 : k0_cond3 i = 1#1), ∀ a, (k0_off334 v219) a + S1x16x128.size a ≤ S65536x16x128.size a)
theorem k0_off334_inb : ∀ (i : grid0.Coords) (v219 : BitVec 32) (k0_hw83 : k0_chk83 i v219), ∀ (k0_h3 : k0_cond3 i = 1#1), ∀ a, (k0_off334 v219) a + S1x16x128.size a ≤ S65536x16x128.size a := fun i v219 k0_hw83 k0_h3 => k0_hw83 k0_h3

def k0_off335 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c19_i32 : BitVec 32 := 19#32
  let v227 : BitVec 32 := Scalar.addi v35 c19_i32
  let v228 : Index := Scalar.indexCast v227
  ![v228.toNat]
def k0_off336 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off337 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c19_i32_127 : BitVec 32 := 19#32
  let v230 : BitVec 32 := Scalar.addi v36 c19_i32_127
  let c0_i32_128 : BitVec 32 := 0#32
  let c0_i32_129 : BitVec 32 := 0#32
  ![v2.toNat, v230.toNat, 0, 0]
def k0_off338 (v229 : BitVec 32) : Fin 3 → Nat :=
  let c0_i32_130 : BitVec 32 := 0#32
  let c0_i32_131 : BitVec 32 := 0#32
  ![v229.toNat, 0, 0]

def k0_chk84 (i : grid0.Coords) (v229 : BitVec 32) : Prop :=
  (∀ (k0_h3 : k0_cond3 i = 1#1), ∀ a, (k0_off338 v229) a + S1x16x128.size a ≤ S65536x16x128.size a)
theorem k0_off338_inb : ∀ (i : grid0.Coords) (v229 : BitVec 32) (k0_hw84 : k0_chk84 i v229), ∀ (k0_h3 : k0_cond3 i = 1#1), ∀ a, (k0_off338 v229) a + S1x16x128.size a ≤ S65536x16x128.size a := fun i v229 k0_hw84 k0_h3 => k0_hw84 k0_h3

def k0_off339 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c20_i32 : BitVec 32 := 20#32
  let v237 : BitVec 32 := Scalar.addi v35 c20_i32
  let v238 : Index := Scalar.indexCast v237
  ![v238.toNat]
def k0_off340 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off341 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c20_i32_132 : BitVec 32 := 20#32
  let v240 : BitVec 32 := Scalar.addi v36 c20_i32_132
  let c0_i32_133 : BitVec 32 := 0#32
  let c0_i32_134 : BitVec 32 := 0#32
  ![v2.toNat, v240.toNat, 0, 0]
def k0_off342 (v239 : BitVec 32) : Fin 3 → Nat :=
  let c0_i32_135 : BitVec 32 := 0#32
  let c0_i32_136 : BitVec 32 := 0#32
  ![v239.toNat, 0, 0]

def k0_chk85 (i : grid0.Coords) (v239 : BitVec 32) : Prop :=
  (∀ (k0_h3 : k0_cond3 i = 1#1), ∀ a, (k0_off342 v239) a + S1x16x128.size a ≤ S65536x16x128.size a)
theorem k0_off342_inb : ∀ (i : grid0.Coords) (v239 : BitVec 32) (k0_hw85 : k0_chk85 i v239), ∀ (k0_h3 : k0_cond3 i = 1#1), ∀ a, (k0_off342 v239) a + S1x16x128.size a ≤ S65536x16x128.size a := fun i v239 k0_hw85 k0_h3 => k0_hw85 k0_h3

def k0_off343 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c21_i32 : BitVec 32 := 21#32
  let v247 : BitVec 32 := Scalar.addi v35 c21_i32
  let v248 : Index := Scalar.indexCast v247
  ![v248.toNat]
def k0_off344 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off345 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c21_i32_137 : BitVec 32 := 21#32
  let v250 : BitVec 32 := Scalar.addi v36 c21_i32_137
  let c0_i32_138 : BitVec 32 := 0#32
  let c0_i32_139 : BitVec 32 := 0#32
  ![v2.toNat, v250.toNat, 0, 0]
def k0_off346 (v249 : BitVec 32) : Fin 3 → Nat :=
  let c0_i32_140 : BitVec 32 := 0#32
  let c0_i32_141 : BitVec 32 := 0#32
  ![v249.toNat, 0, 0]

def k0_chk86 (i : grid0.Coords) (v249 : BitVec 32) : Prop :=
  (∀ (k0_h3 : k0_cond3 i = 1#1), ∀ a, (k0_off346 v249) a + S1x16x128.size a ≤ S65536x16x128.size a)
theorem k0_off346_inb : ∀ (i : grid0.Coords) (v249 : BitVec 32) (k0_hw86 : k0_chk86 i v249), ∀ (k0_h3 : k0_cond3 i = 1#1), ∀ a, (k0_off346 v249) a + S1x16x128.size a ≤ S65536x16x128.size a := fun i v249 k0_hw86 k0_h3 => k0_hw86 k0_h3

def k0_off347 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c22_i32 : BitVec 32 := 22#32
  let v257 : BitVec 32 := Scalar.addi v35 c22_i32
  let v258 : Index := Scalar.indexCast v257
  ![v258.toNat]
def k0_off348 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off349 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c22_i32_142 : BitVec 32 := 22#32
  let v260 : BitVec 32 := Scalar.addi v36 c22_i32_142
  let c0_i32_143 : BitVec 32 := 0#32
  let c0_i32_144 : BitVec 32 := 0#32
  ![v2.toNat, v260.toNat, 0, 0]
def k0_off350 (v259 : BitVec 32) : Fin 3 → Nat :=
  let c0_i32_145 : BitVec 32 := 0#32
  let c0_i32_146 : BitVec 32 := 0#32
  ![v259.toNat, 0, 0]

def k0_chk87 (i : grid0.Coords) (v259 : BitVec 32) : Prop :=
  (∀ (k0_h3 : k0_cond3 i = 1#1), ∀ a, (k0_off350 v259) a + S1x16x128.size a ≤ S65536x16x128.size a)
theorem k0_off350_inb : ∀ (i : grid0.Coords) (v259 : BitVec 32) (k0_hw87 : k0_chk87 i v259), ∀ (k0_h3 : k0_cond3 i = 1#1), ∀ a, (k0_off350 v259) a + S1x16x128.size a ≤ S65536x16x128.size a := fun i v259 k0_hw87 k0_h3 => k0_hw87 k0_h3

def k0_off351 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c23_i32 : BitVec 32 := 23#32
  let v267 : BitVec 32 := Scalar.addi v35 c23_i32
  let v268 : Index := Scalar.indexCast v267
  ![v268.toNat]
def k0_off352 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off353 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c23_i32_147 : BitVec 32 := 23#32
  let v270 : BitVec 32 := Scalar.addi v36 c23_i32_147
  let c0_i32_148 : BitVec 32 := 0#32
  let c0_i32_149 : BitVec 32 := 0#32
  ![v2.toNat, v270.toNat, 0, 0]
def k0_off354 (v269 : BitVec 32) : Fin 3 → Nat :=
  let c0_i32_150 : BitVec 32 := 0#32
  let c0_i32_151 : BitVec 32 := 0#32
  ![v269.toNat, 0, 0]

def k0_chk88 (i : grid0.Coords) (v269 : BitVec 32) : Prop :=
  (∀ (k0_h3 : k0_cond3 i = 1#1), ∀ a, (k0_off354 v269) a + S1x16x128.size a ≤ S65536x16x128.size a)
theorem k0_off354_inb : ∀ (i : grid0.Coords) (v269 : BitVec 32) (k0_hw88 : k0_chk88 i v269), ∀ (k0_h3 : k0_cond3 i = 1#1), ∀ a, (k0_off354 v269) a + S1x16x128.size a ≤ S65536x16x128.size a := fun i v269 k0_hw88 k0_h3 => k0_hw88 k0_h3

def k0_off355 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c24_i32 : BitVec 32 := 24#32
  let v277 : BitVec 32 := Scalar.addi v35 c24_i32
  let v278 : Index := Scalar.indexCast v277
  ![v278.toNat]
def k0_off356 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off357 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c24_i32_152 : BitVec 32 := 24#32
  let v280 : BitVec 32 := Scalar.addi v36 c24_i32_152
  let c0_i32_153 : BitVec 32 := 0#32
  let c0_i32_154 : BitVec 32 := 0#32
  ![v2.toNat, v280.toNat, 0, 0]
def k0_off358 (v279 : BitVec 32) : Fin 3 → Nat :=
  let c0_i32_155 : BitVec 32 := 0#32
  let c0_i32_156 : BitVec 32 := 0#32
  ![v279.toNat, 0, 0]

def k0_chk89 (i : grid0.Coords) (v279 : BitVec 32) : Prop :=
  (∀ (k0_h3 : k0_cond3 i = 1#1), ∀ a, (k0_off358 v279) a + S1x16x128.size a ≤ S65536x16x128.size a)
theorem k0_off358_inb : ∀ (i : grid0.Coords) (v279 : BitVec 32) (k0_hw89 : k0_chk89 i v279), ∀ (k0_h3 : k0_cond3 i = 1#1), ∀ a, (k0_off358 v279) a + S1x16x128.size a ≤ S65536x16x128.size a := fun i v279 k0_hw89 k0_h3 => k0_hw89 k0_h3

def k0_off359 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c25_i32 : BitVec 32 := 25#32
  let v287 : BitVec 32 := Scalar.addi v35 c25_i32
  let v288 : Index := Scalar.indexCast v287
  ![v288.toNat]
def k0_off360 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off361 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c25_i32_157 : BitVec 32 := 25#32
  let v290 : BitVec 32 := Scalar.addi v36 c25_i32_157
  let c0_i32_158 : BitVec 32 := 0#32
  let c0_i32_159 : BitVec 32 := 0#32
  ![v2.toNat, v290.toNat, 0, 0]
def k0_off362 (v289 : BitVec 32) : Fin 3 → Nat :=
  let c0_i32_160 : BitVec 32 := 0#32
  let c0_i32_161 : BitVec 32 := 0#32
  ![v289.toNat, 0, 0]

def k0_chk90 (i : grid0.Coords) (v289 : BitVec 32) : Prop :=
  (∀ (k0_h3 : k0_cond3 i = 1#1), ∀ a, (k0_off362 v289) a + S1x16x128.size a ≤ S65536x16x128.size a)
theorem k0_off362_inb : ∀ (i : grid0.Coords) (v289 : BitVec 32) (k0_hw90 : k0_chk90 i v289), ∀ (k0_h3 : k0_cond3 i = 1#1), ∀ a, (k0_off362 v289) a + S1x16x128.size a ≤ S65536x16x128.size a := fun i v289 k0_hw90 k0_h3 => k0_hw90 k0_h3

def k0_off363 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c26_i32 : BitVec 32 := 26#32
  let v297 : BitVec 32 := Scalar.addi v35 c26_i32
  let v298 : Index := Scalar.indexCast v297
  ![v298.toNat]
def k0_off364 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off365 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c26_i32_162 : BitVec 32 := 26#32
  let v300 : BitVec 32 := Scalar.addi v36 c26_i32_162
  let c0_i32_163 : BitVec 32 := 0#32
  let c0_i32_164 : BitVec 32 := 0#32
  ![v2.toNat, v300.toNat, 0, 0]
def k0_off366 (v299 : BitVec 32) : Fin 3 → Nat :=
  let c0_i32_165 : BitVec 32 := 0#32
  let c0_i32_166 : BitVec 32 := 0#32
  ![v299.toNat, 0, 0]

def k0_chk91 (i : grid0.Coords) (v299 : BitVec 32) : Prop :=
  (∀ (k0_h3 : k0_cond3 i = 1#1), ∀ a, (k0_off366 v299) a + S1x16x128.size a ≤ S65536x16x128.size a)
theorem k0_off366_inb : ∀ (i : grid0.Coords) (v299 : BitVec 32) (k0_hw91 : k0_chk91 i v299), ∀ (k0_h3 : k0_cond3 i = 1#1), ∀ a, (k0_off366 v299) a + S1x16x128.size a ≤ S65536x16x128.size a := fun i v299 k0_hw91 k0_h3 => k0_hw91 k0_h3

def k0_off367 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c27_i32 : BitVec 32 := 27#32
  let v307 : BitVec 32 := Scalar.addi v35 c27_i32
  let v308 : Index := Scalar.indexCast v307
  ![v308.toNat]
def k0_off368 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off369 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c27_i32_167 : BitVec 32 := 27#32
  let v310 : BitVec 32 := Scalar.addi v36 c27_i32_167
  let c0_i32_168 : BitVec 32 := 0#32
  let c0_i32_169 : BitVec 32 := 0#32
  ![v2.toNat, v310.toNat, 0, 0]
def k0_off370 (v309 : BitVec 32) : Fin 3 → Nat :=
  let c0_i32_170 : BitVec 32 := 0#32
  let c0_i32_171 : BitVec 32 := 0#32
  ![v309.toNat, 0, 0]

def k0_chk92 (i : grid0.Coords) (v309 : BitVec 32) : Prop :=
  (∀ (k0_h3 : k0_cond3 i = 1#1), ∀ a, (k0_off370 v309) a + S1x16x128.size a ≤ S65536x16x128.size a)
theorem k0_off370_inb : ∀ (i : grid0.Coords) (v309 : BitVec 32) (k0_hw92 : k0_chk92 i v309), ∀ (k0_h3 : k0_cond3 i = 1#1), ∀ a, (k0_off370 v309) a + S1x16x128.size a ≤ S65536x16x128.size a := fun i v309 k0_hw92 k0_h3 => k0_hw92 k0_h3

def k0_off371 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c28_i32 : BitVec 32 := 28#32
  let v317 : BitVec 32 := Scalar.addi v35 c28_i32
  let v318 : Index := Scalar.indexCast v317
  ![v318.toNat]
def k0_off372 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off373 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c28_i32_172 : BitVec 32 := 28#32
  let v320 : BitVec 32 := Scalar.addi v36 c28_i32_172
  let c0_i32_173 : BitVec 32 := 0#32
  let c0_i32_174 : BitVec 32 := 0#32
  ![v2.toNat, v320.toNat, 0, 0]
def k0_off374 (v319 : BitVec 32) : Fin 3 → Nat :=
  let c0_i32_175 : BitVec 32 := 0#32
  let c0_i32_176 : BitVec 32 := 0#32
  ![v319.toNat, 0, 0]

def k0_chk93 (i : grid0.Coords) (v319 : BitVec 32) : Prop :=
  (∀ (k0_h3 : k0_cond3 i = 1#1), ∀ a, (k0_off374 v319) a + S1x16x128.size a ≤ S65536x16x128.size a)
theorem k0_off374_inb : ∀ (i : grid0.Coords) (v319 : BitVec 32) (k0_hw93 : k0_chk93 i v319), ∀ (k0_h3 : k0_cond3 i = 1#1), ∀ a, (k0_off374 v319) a + S1x16x128.size a ≤ S65536x16x128.size a := fun i v319 k0_hw93 k0_h3 => k0_hw93 k0_h3

def k0_off375 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c29_i32 : BitVec 32 := 29#32
  let v327 : BitVec 32 := Scalar.addi v35 c29_i32
  let v328 : Index := Scalar.indexCast v327
  ![v328.toNat]
def k0_off376 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off377 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c29_i32_177 : BitVec 32 := 29#32
  let v330 : BitVec 32 := Scalar.addi v36 c29_i32_177
  let c0_i32_178 : BitVec 32 := 0#32
  let c0_i32_179 : BitVec 32 := 0#32
  ![v2.toNat, v330.toNat, 0, 0]
def k0_off378 (v329 : BitVec 32) : Fin 3 → Nat :=
  let c0_i32_180 : BitVec 32 := 0#32
  let c0_i32_181 : BitVec 32 := 0#32
  ![v329.toNat, 0, 0]

def k0_chk94 (i : grid0.Coords) (v329 : BitVec 32) : Prop :=
  (∀ (k0_h3 : k0_cond3 i = 1#1), ∀ a, (k0_off378 v329) a + S1x16x128.size a ≤ S65536x16x128.size a)
theorem k0_off378_inb : ∀ (i : grid0.Coords) (v329 : BitVec 32) (k0_hw94 : k0_chk94 i v329), ∀ (k0_h3 : k0_cond3 i = 1#1), ∀ a, (k0_off378 v329) a + S1x16x128.size a ≤ S65536x16x128.size a := fun i v329 k0_hw94 k0_h3 => k0_hw94 k0_h3

def k0_off379 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c30_i32 : BitVec 32 := 30#32
  let v337 : BitVec 32 := Scalar.addi v35 c30_i32
  let v338 : Index := Scalar.indexCast v337
  ![v338.toNat]
def k0_off380 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off381 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c30_i32_182 : BitVec 32 := 30#32
  let v340 : BitVec 32 := Scalar.addi v36 c30_i32_182
  let c0_i32_183 : BitVec 32 := 0#32
  let c0_i32_184 : BitVec 32 := 0#32
  ![v2.toNat, v340.toNat, 0, 0]
def k0_off382 (v339 : BitVec 32) : Fin 3 → Nat :=
  let c0_i32_185 : BitVec 32 := 0#32
  let c0_i32_186 : BitVec 32 := 0#32
  ![v339.toNat, 0, 0]

def k0_chk95 (i : grid0.Coords) (v339 : BitVec 32) : Prop :=
  (∀ (k0_h3 : k0_cond3 i = 1#1), ∀ a, (k0_off382 v339) a + S1x16x128.size a ≤ S65536x16x128.size a)
theorem k0_off382_inb : ∀ (i : grid0.Coords) (v339 : BitVec 32) (k0_hw95 : k0_chk95 i v339), ∀ (k0_h3 : k0_cond3 i = 1#1), ∀ a, (k0_off382 v339) a + S1x16x128.size a ≤ S65536x16x128.size a := fun i v339 k0_hw95 k0_h3 => k0_hw95 k0_h3

def k0_off383 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c31_i32 : BitVec 32 := 31#32
  let v347 : BitVec 32 := Scalar.addi v35 c31_i32
  let v348 : Index := Scalar.indexCast v347
  ![v348.toNat]
def k0_off384 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off385 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c31_i32_187 : BitVec 32 := 31#32
  let v350 : BitVec 32 := Scalar.addi v36 c31_i32_187
  let c0_i32_188 : BitVec 32 := 0#32
  let c0_i32_189 : BitVec 32 := 0#32
  ![v2.toNat, v350.toNat, 0, 0]
def k0_off386 (v349 : BitVec 32) : Fin 3 → Nat :=
  let c0_i32_190 : BitVec 32 := 0#32
  let c0_i32_191 : BitVec 32 := 0#32
  ![v349.toNat, 0, 0]

def k0_chk96 (i : grid0.Coords) (v349 : BitVec 32) : Prop :=
  (∀ (k0_h3 : k0_cond3 i = 1#1), ∀ a, (k0_off386 v349) a + S1x16x128.size a ≤ S65536x16x128.size a)
theorem k0_off386_inb : ∀ (i : grid0.Coords) (v349 : BitVec 32) (k0_hw96 : k0_chk96 i v349), ∀ (k0_h3 : k0_cond3 i = 1#1), ∀ a, (k0_off386 v349) a + S1x16x128.size a ≤ S65536x16x128.size a := fun i v349 k0_hw96 k0_h3 => k0_hw96 k0_h3

def k0_off387 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c32_i32 : BitVec 32 := 32#32
  let v357 : BitVec 32 := Scalar.addi v35 c32_i32
  let v358 : Index := Scalar.indexCast v357
  ![v358.toNat]
def k0_off388 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off389 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c32_i32_192 : BitVec 32 := 32#32
  let v360 : BitVec 32 := Scalar.addi v36 c32_i32_192
  let c0_i32_193 : BitVec 32 := 0#32
  let c0_i32_194 : BitVec 32 := 0#32
  ![v2.toNat, v360.toNat, 0, 0]
def k0_off390 (v359 : BitVec 32) : Fin 3 → Nat :=
  let c0_i32_195 : BitVec 32 := 0#32
  let c0_i32_196 : BitVec 32 := 0#32
  ![v359.toNat, 0, 0]

def k0_chk97 (i : grid0.Coords) (v359 : BitVec 32) : Prop :=
  (∀ (k0_h3 : k0_cond3 i = 1#1), ∀ a, (k0_off390 v359) a + S1x16x128.size a ≤ S65536x16x128.size a)
theorem k0_off390_inb : ∀ (i : grid0.Coords) (v359 : BitVec 32) (k0_hw97 : k0_chk97 i v359), ∀ (k0_h3 : k0_cond3 i = 1#1), ∀ a, (k0_off390 v359) a + S1x16x128.size a ≤ S65536x16x128.size a := fun i v359 k0_hw97 k0_h3 => k0_hw97 k0_h3

def k0_off391 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c33_i32 : BitVec 32 := 33#32
  let v367 : BitVec 32 := Scalar.addi v35 c33_i32
  let v368 : Index := Scalar.indexCast v367
  ![v368.toNat]
def k0_off392 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off393 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c33_i32_197 : BitVec 32 := 33#32
  let v370 : BitVec 32 := Scalar.addi v36 c33_i32_197
  let c0_i32_198 : BitVec 32 := 0#32
  let c0_i32_199 : BitVec 32 := 0#32
  ![v2.toNat, v370.toNat, 0, 0]
def k0_off394 (v369 : BitVec 32) : Fin 3 → Nat :=
  let c0_i32_200 : BitVec 32 := 0#32
  let c0_i32_201 : BitVec 32 := 0#32
  ![v369.toNat, 0, 0]

def k0_chk98 (i : grid0.Coords) (v369 : BitVec 32) : Prop :=
  (∀ (k0_h3 : k0_cond3 i = 1#1), ∀ a, (k0_off394 v369) a + S1x16x128.size a ≤ S65536x16x128.size a)
theorem k0_off394_inb : ∀ (i : grid0.Coords) (v369 : BitVec 32) (k0_hw98 : k0_chk98 i v369), ∀ (k0_h3 : k0_cond3 i = 1#1), ∀ a, (k0_off394 v369) a + S1x16x128.size a ≤ S65536x16x128.size a := fun i v369 k0_hw98 k0_h3 => k0_hw98 k0_h3

def k0_off395 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c34_i32 : BitVec 32 := 34#32
  let v377 : BitVec 32 := Scalar.addi v35 c34_i32
  let v378 : Index := Scalar.indexCast v377
  ![v378.toNat]
def k0_off396 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off397 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c34_i32_202 : BitVec 32 := 34#32
  let v380 : BitVec 32 := Scalar.addi v36 c34_i32_202
  let c0_i32_203 : BitVec 32 := 0#32
  let c0_i32_204 : BitVec 32 := 0#32
  ![v2.toNat, v380.toNat, 0, 0]
def k0_off398 (v379 : BitVec 32) : Fin 3 → Nat :=
  let c0_i32_205 : BitVec 32 := 0#32
  let c0_i32_206 : BitVec 32 := 0#32
  ![v379.toNat, 0, 0]

def k0_chk99 (i : grid0.Coords) (v379 : BitVec 32) : Prop :=
  (∀ (k0_h3 : k0_cond3 i = 1#1), ∀ a, (k0_off398 v379) a + S1x16x128.size a ≤ S65536x16x128.size a)
theorem k0_off398_inb : ∀ (i : grid0.Coords) (v379 : BitVec 32) (k0_hw99 : k0_chk99 i v379), ∀ (k0_h3 : k0_cond3 i = 1#1), ∀ a, (k0_off398 v379) a + S1x16x128.size a ≤ S65536x16x128.size a := fun i v379 k0_hw99 k0_h3 => k0_hw99 k0_h3

def k0_off399 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c35_i32 : BitVec 32 := 35#32
  let v387 : BitVec 32 := Scalar.addi v35 c35_i32
  let v388 : Index := Scalar.indexCast v387
  ![v388.toNat]
def k0_off400 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off401 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c35_i32_207 : BitVec 32 := 35#32
  let v390 : BitVec 32 := Scalar.addi v36 c35_i32_207
  let c0_i32_208 : BitVec 32 := 0#32
  let c0_i32_209 : BitVec 32 := 0#32
  ![v2.toNat, v390.toNat, 0, 0]
def k0_off402 (v389 : BitVec 32) : Fin 3 → Nat :=
  let c0_i32_210 : BitVec 32 := 0#32
  let c0_i32_211 : BitVec 32 := 0#32
  ![v389.toNat, 0, 0]

def k0_chk100 (i : grid0.Coords) (v389 : BitVec 32) : Prop :=
  (∀ (k0_h3 : k0_cond3 i = 1#1), ∀ a, (k0_off402 v389) a + S1x16x128.size a ≤ S65536x16x128.size a)
theorem k0_off402_inb : ∀ (i : grid0.Coords) (v389 : BitVec 32) (k0_hw100 : k0_chk100 i v389), ∀ (k0_h3 : k0_cond3 i = 1#1), ∀ a, (k0_off402 v389) a + S1x16x128.size a ≤ S65536x16x128.size a := fun i v389 k0_hw100 k0_h3 => k0_hw100 k0_h3

def k0_off403 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c36_i32 : BitVec 32 := 36#32
  let v397 : BitVec 32 := Scalar.addi v35 c36_i32
  let v398 : Index := Scalar.indexCast v397
  ![v398.toNat]
def k0_off404 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off405 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c36_i32_212 : BitVec 32 := 36#32
  let v400 : BitVec 32 := Scalar.addi v36 c36_i32_212
  let c0_i32_213 : BitVec 32 := 0#32
  let c0_i32_214 : BitVec 32 := 0#32
  ![v2.toNat, v400.toNat, 0, 0]
def k0_off406 (v399 : BitVec 32) : Fin 3 → Nat :=
  let c0_i32_215 : BitVec 32 := 0#32
  let c0_i32_216 : BitVec 32 := 0#32
  ![v399.toNat, 0, 0]

def k0_chk101 (i : grid0.Coords) (v399 : BitVec 32) : Prop :=
  (∀ (k0_h3 : k0_cond3 i = 1#1), ∀ a, (k0_off406 v399) a + S1x16x128.size a ≤ S65536x16x128.size a)
theorem k0_off406_inb : ∀ (i : grid0.Coords) (v399 : BitVec 32) (k0_hw101 : k0_chk101 i v399), ∀ (k0_h3 : k0_cond3 i = 1#1), ∀ a, (k0_off406 v399) a + S1x16x128.size a ≤ S65536x16x128.size a := fun i v399 k0_hw101 k0_h3 => k0_hw101 k0_h3

def k0_off407 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c37_i32 : BitVec 32 := 37#32
  let v407 : BitVec 32 := Scalar.addi v35 c37_i32
  let v408 : Index := Scalar.indexCast v407
  ![v408.toNat]
def k0_off408 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off409 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c37_i32_217 : BitVec 32 := 37#32
  let v410 : BitVec 32 := Scalar.addi v36 c37_i32_217
  let c0_i32_218 : BitVec 32 := 0#32
  let c0_i32_219 : BitVec 32 := 0#32
  ![v2.toNat, v410.toNat, 0, 0]
def k0_off410 (v409 : BitVec 32) : Fin 3 → Nat :=
  let c0_i32_220 : BitVec 32 := 0#32
  let c0_i32_221 : BitVec 32 := 0#32
  ![v409.toNat, 0, 0]

def k0_chk102 (i : grid0.Coords) (v409 : BitVec 32) : Prop :=
  (∀ (k0_h3 : k0_cond3 i = 1#1), ∀ a, (k0_off410 v409) a + S1x16x128.size a ≤ S65536x16x128.size a)
theorem k0_off410_inb : ∀ (i : grid0.Coords) (v409 : BitVec 32) (k0_hw102 : k0_chk102 i v409), ∀ (k0_h3 : k0_cond3 i = 1#1), ∀ a, (k0_off410 v409) a + S1x16x128.size a ≤ S65536x16x128.size a := fun i v409 k0_hw102 k0_h3 => k0_hw102 k0_h3

def k0_off411 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c38_i32 : BitVec 32 := 38#32
  let v417 : BitVec 32 := Scalar.addi v35 c38_i32
  let v418 : Index := Scalar.indexCast v417
  ![v418.toNat]
def k0_off412 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off413 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c38_i32_222 : BitVec 32 := 38#32
  let v420 : BitVec 32 := Scalar.addi v36 c38_i32_222
  let c0_i32_223 : BitVec 32 := 0#32
  let c0_i32_224 : BitVec 32 := 0#32
  ![v2.toNat, v420.toNat, 0, 0]
def k0_off414 (v419 : BitVec 32) : Fin 3 → Nat :=
  let c0_i32_225 : BitVec 32 := 0#32
  let c0_i32_226 : BitVec 32 := 0#32
  ![v419.toNat, 0, 0]

def k0_chk103 (i : grid0.Coords) (v419 : BitVec 32) : Prop :=
  (∀ (k0_h3 : k0_cond3 i = 1#1), ∀ a, (k0_off414 v419) a + S1x16x128.size a ≤ S65536x16x128.size a)
theorem k0_off414_inb : ∀ (i : grid0.Coords) (v419 : BitVec 32) (k0_hw103 : k0_chk103 i v419), ∀ (k0_h3 : k0_cond3 i = 1#1), ∀ a, (k0_off414 v419) a + S1x16x128.size a ≤ S65536x16x128.size a := fun i v419 k0_hw103 k0_h3 => k0_hw103 k0_h3

def k0_off415 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c39_i32 : BitVec 32 := 39#32
  let v427 : BitVec 32 := Scalar.addi v35 c39_i32
  let v428 : Index := Scalar.indexCast v427
  ![v428.toNat]
def k0_off416 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off417 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c39_i32_227 : BitVec 32 := 39#32
  let v430 : BitVec 32 := Scalar.addi v36 c39_i32_227
  let c0_i32_228 : BitVec 32 := 0#32
  let c0_i32_229 : BitVec 32 := 0#32
  ![v2.toNat, v430.toNat, 0, 0]
def k0_off418 (v429 : BitVec 32) : Fin 3 → Nat :=
  let c0_i32_230 : BitVec 32 := 0#32
  let c0_i32_231 : BitVec 32 := 0#32
  ![v429.toNat, 0, 0]

def k0_chk104 (i : grid0.Coords) (v429 : BitVec 32) : Prop :=
  (∀ (k0_h3 : k0_cond3 i = 1#1), ∀ a, (k0_off418 v429) a + S1x16x128.size a ≤ S65536x16x128.size a)
theorem k0_off418_inb : ∀ (i : grid0.Coords) (v429 : BitVec 32) (k0_hw104 : k0_chk104 i v429), ∀ (k0_h3 : k0_cond3 i = 1#1), ∀ a, (k0_off418 v429) a + S1x16x128.size a ≤ S65536x16x128.size a := fun i v429 k0_hw104 k0_h3 => k0_hw104 k0_h3

def k0_off419 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c40_i32 : BitVec 32 := 40#32
  let v437 : BitVec 32 := Scalar.addi v35 c40_i32
  let v438 : Index := Scalar.indexCast v437
  ![v438.toNat]
def k0_off420 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off421 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c40_i32_232 : BitVec 32 := 40#32
  let v440 : BitVec 32 := Scalar.addi v36 c40_i32_232
  let c0_i32_233 : BitVec 32 := 0#32
  let c0_i32_234 : BitVec 32 := 0#32
  ![v2.toNat, v440.toNat, 0, 0]
def k0_off422 (v439 : BitVec 32) : Fin 3 → Nat :=
  let c0_i32_235 : BitVec 32 := 0#32
  let c0_i32_236 : BitVec 32 := 0#32
  ![v439.toNat, 0, 0]

def k0_chk105 (i : grid0.Coords) (v439 : BitVec 32) : Prop :=
  (∀ (k0_h3 : k0_cond3 i = 1#1), ∀ a, (k0_off422 v439) a + S1x16x128.size a ≤ S65536x16x128.size a)
theorem k0_off422_inb : ∀ (i : grid0.Coords) (v439 : BitVec 32) (k0_hw105 : k0_chk105 i v439), ∀ (k0_h3 : k0_cond3 i = 1#1), ∀ a, (k0_off422 v439) a + S1x16x128.size a ≤ S65536x16x128.size a := fun i v439 k0_hw105 k0_h3 => k0_hw105 k0_h3

def k0_off423 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c41_i32 : BitVec 32 := 41#32
  let v447 : BitVec 32 := Scalar.addi v35 c41_i32
  let v448 : Index := Scalar.indexCast v447
  ![v448.toNat]
def k0_off424 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off425 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c41_i32_237 : BitVec 32 := 41#32
  let v450 : BitVec 32 := Scalar.addi v36 c41_i32_237
  let c0_i32_238 : BitVec 32 := 0#32
  let c0_i32_239 : BitVec 32 := 0#32
  ![v2.toNat, v450.toNat, 0, 0]
def k0_off426 (v449 : BitVec 32) : Fin 3 → Nat :=
  let c0_i32_240 : BitVec 32 := 0#32
  let c0_i32_241 : BitVec 32 := 0#32
  ![v449.toNat, 0, 0]

def k0_chk106 (i : grid0.Coords) (v449 : BitVec 32) : Prop :=
  (∀ (k0_h3 : k0_cond3 i = 1#1), ∀ a, (k0_off426 v449) a + S1x16x128.size a ≤ S65536x16x128.size a)
theorem k0_off426_inb : ∀ (i : grid0.Coords) (v449 : BitVec 32) (k0_hw106 : k0_chk106 i v449), ∀ (k0_h3 : k0_cond3 i = 1#1), ∀ a, (k0_off426 v449) a + S1x16x128.size a ≤ S65536x16x128.size a := fun i v449 k0_hw106 k0_h3 => k0_hw106 k0_h3

def k0_off427 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c42_i32 : BitVec 32 := 42#32
  let v457 : BitVec 32 := Scalar.addi v35 c42_i32
  let v458 : Index := Scalar.indexCast v457
  ![v458.toNat]
def k0_off428 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off429 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c42_i32_242 : BitVec 32 := 42#32
  let v460 : BitVec 32 := Scalar.addi v36 c42_i32_242
  let c0_i32_243 : BitVec 32 := 0#32
  let c0_i32_244 : BitVec 32 := 0#32
  ![v2.toNat, v460.toNat, 0, 0]
def k0_off430 (v459 : BitVec 32) : Fin 3 → Nat :=
  let c0_i32_245 : BitVec 32 := 0#32
  let c0_i32_246 : BitVec 32 := 0#32
  ![v459.toNat, 0, 0]

def k0_chk107 (i : grid0.Coords) (v459 : BitVec 32) : Prop :=
  (∀ (k0_h3 : k0_cond3 i = 1#1), ∀ a, (k0_off430 v459) a + S1x16x128.size a ≤ S65536x16x128.size a)
theorem k0_off430_inb : ∀ (i : grid0.Coords) (v459 : BitVec 32) (k0_hw107 : k0_chk107 i v459), ∀ (k0_h3 : k0_cond3 i = 1#1), ∀ a, (k0_off430 v459) a + S1x16x128.size a ≤ S65536x16x128.size a := fun i v459 k0_hw107 k0_h3 => k0_hw107 k0_h3

def k0_off431 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c43_i32 : BitVec 32 := 43#32
  let v467 : BitVec 32 := Scalar.addi v35 c43_i32
  let v468 : Index := Scalar.indexCast v467
  ![v468.toNat]
def k0_off432 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off433 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c43_i32_247 : BitVec 32 := 43#32
  let v470 : BitVec 32 := Scalar.addi v36 c43_i32_247
  let c0_i32_248 : BitVec 32 := 0#32
  let c0_i32_249 : BitVec 32 := 0#32
  ![v2.toNat, v470.toNat, 0, 0]
def k0_off434 (v469 : BitVec 32) : Fin 3 → Nat :=
  let c0_i32_250 : BitVec 32 := 0#32
  let c0_i32_251 : BitVec 32 := 0#32
  ![v469.toNat, 0, 0]

def k0_chk108 (i : grid0.Coords) (v469 : BitVec 32) : Prop :=
  (∀ (k0_h3 : k0_cond3 i = 1#1), ∀ a, (k0_off434 v469) a + S1x16x128.size a ≤ S65536x16x128.size a)
theorem k0_off434_inb : ∀ (i : grid0.Coords) (v469 : BitVec 32) (k0_hw108 : k0_chk108 i v469), ∀ (k0_h3 : k0_cond3 i = 1#1), ∀ a, (k0_off434 v469) a + S1x16x128.size a ≤ S65536x16x128.size a := fun i v469 k0_hw108 k0_h3 => k0_hw108 k0_h3

def k0_off435 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c44_i32 : BitVec 32 := 44#32
  let v477 : BitVec 32 := Scalar.addi v35 c44_i32
  let v478 : Index := Scalar.indexCast v477
  ![v478.toNat]
def k0_off436 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off437 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c44_i32_252 : BitVec 32 := 44#32
  let v480 : BitVec 32 := Scalar.addi v36 c44_i32_252
  let c0_i32_253 : BitVec 32 := 0#32
  let c0_i32_254 : BitVec 32 := 0#32
  ![v2.toNat, v480.toNat, 0, 0]
def k0_off438 (v479 : BitVec 32) : Fin 3 → Nat :=
  let c0_i32_255 : BitVec 32 := 0#32
  let c0_i32_256 : BitVec 32 := 0#32
  ![v479.toNat, 0, 0]

def k0_chk109 (i : grid0.Coords) (v479 : BitVec 32) : Prop :=
  (∀ (k0_h3 : k0_cond3 i = 1#1), ∀ a, (k0_off438 v479) a + S1x16x128.size a ≤ S65536x16x128.size a)
theorem k0_off438_inb : ∀ (i : grid0.Coords) (v479 : BitVec 32) (k0_hw109 : k0_chk109 i v479), ∀ (k0_h3 : k0_cond3 i = 1#1), ∀ a, (k0_off438 v479) a + S1x16x128.size a ≤ S65536x16x128.size a := fun i v479 k0_hw109 k0_h3 => k0_hw109 k0_h3

def k0_off439 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c45_i32 : BitVec 32 := 45#32
  let v487 : BitVec 32 := Scalar.addi v35 c45_i32
  let v488 : Index := Scalar.indexCast v487
  ![v488.toNat]
def k0_off440 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off441 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c45_i32_257 : BitVec 32 := 45#32
  let v490 : BitVec 32 := Scalar.addi v36 c45_i32_257
  let c0_i32_258 : BitVec 32 := 0#32
  let c0_i32_259 : BitVec 32 := 0#32
  ![v2.toNat, v490.toNat, 0, 0]
def k0_off442 (v489 : BitVec 32) : Fin 3 → Nat :=
  let c0_i32_260 : BitVec 32 := 0#32
  let c0_i32_261 : BitVec 32 := 0#32
  ![v489.toNat, 0, 0]

def k0_chk110 (i : grid0.Coords) (v489 : BitVec 32) : Prop :=
  (∀ (k0_h3 : k0_cond3 i = 1#1), ∀ a, (k0_off442 v489) a + S1x16x128.size a ≤ S65536x16x128.size a)
theorem k0_off442_inb : ∀ (i : grid0.Coords) (v489 : BitVec 32) (k0_hw110 : k0_chk110 i v489), ∀ (k0_h3 : k0_cond3 i = 1#1), ∀ a, (k0_off442 v489) a + S1x16x128.size a ≤ S65536x16x128.size a := fun i v489 k0_hw110 k0_h3 => k0_hw110 k0_h3

def k0_off443 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c46_i32 : BitVec 32 := 46#32
  let v497 : BitVec 32 := Scalar.addi v35 c46_i32
  let v498 : Index := Scalar.indexCast v497
  ![v498.toNat]
def k0_off444 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off445 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c46_i32_262 : BitVec 32 := 46#32
  let v500 : BitVec 32 := Scalar.addi v36 c46_i32_262
  let c0_i32_263 : BitVec 32 := 0#32
  let c0_i32_264 : BitVec 32 := 0#32
  ![v2.toNat, v500.toNat, 0, 0]
def k0_off446 (v499 : BitVec 32) : Fin 3 → Nat :=
  let c0_i32_265 : BitVec 32 := 0#32
  let c0_i32_266 : BitVec 32 := 0#32
  ![v499.toNat, 0, 0]

def k0_chk111 (i : grid0.Coords) (v499 : BitVec 32) : Prop :=
  (∀ (k0_h3 : k0_cond3 i = 1#1), ∀ a, (k0_off446 v499) a + S1x16x128.size a ≤ S65536x16x128.size a)
theorem k0_off446_inb : ∀ (i : grid0.Coords) (v499 : BitVec 32) (k0_hw111 : k0_chk111 i v499), ∀ (k0_h3 : k0_cond3 i = 1#1), ∀ a, (k0_off446 v499) a + S1x16x128.size a ≤ S65536x16x128.size a := fun i v499 k0_hw111 k0_h3 => k0_hw111 k0_h3

def k0_off447 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c47_i32 : BitVec 32 := 47#32
  let v507 : BitVec 32 := Scalar.addi v35 c47_i32
  let v508 : Index := Scalar.indexCast v507
  ![v508.toNat]
def k0_off448 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off449 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c47_i32_267 : BitVec 32 := 47#32
  let v510 : BitVec 32 := Scalar.addi v36 c47_i32_267
  let c0_i32_268 : BitVec 32 := 0#32
  let c0_i32_269 : BitVec 32 := 0#32
  ![v2.toNat, v510.toNat, 0, 0]
def k0_off450 (v509 : BitVec 32) : Fin 3 → Nat :=
  let c0_i32_270 : BitVec 32 := 0#32
  let c0_i32_271 : BitVec 32 := 0#32
  ![v509.toNat, 0, 0]

def k0_chk112 (i : grid0.Coords) (v509 : BitVec 32) : Prop :=
  (∀ (k0_h3 : k0_cond3 i = 1#1), ∀ a, (k0_off450 v509) a + S1x16x128.size a ≤ S65536x16x128.size a)
theorem k0_off450_inb : ∀ (i : grid0.Coords) (v509 : BitVec 32) (k0_hw112 : k0_chk112 i v509), ∀ (k0_h3 : k0_cond3 i = 1#1), ∀ a, (k0_off450 v509) a + S1x16x128.size a ≤ S65536x16x128.size a := fun i v509 k0_hw112 k0_h3 => k0_hw112 k0_h3

def k0_off451 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c48_i32 : BitVec 32 := 48#32
  let v517 : BitVec 32 := Scalar.addi v35 c48_i32
  let v518 : Index := Scalar.indexCast v517
  ![v518.toNat]
def k0_off452 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off453 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c48_i32_272 : BitVec 32 := 48#32
  let v520 : BitVec 32 := Scalar.addi v36 c48_i32_272
  let c0_i32_273 : BitVec 32 := 0#32
  let c0_i32_274 : BitVec 32 := 0#32
  ![v2.toNat, v520.toNat, 0, 0]
def k0_off454 (v519 : BitVec 32) : Fin 3 → Nat :=
  let c0_i32_275 : BitVec 32 := 0#32
  let c0_i32_276 : BitVec 32 := 0#32
  ![v519.toNat, 0, 0]

def k0_chk113 (i : grid0.Coords) (v519 : BitVec 32) : Prop :=
  (∀ (k0_h3 : k0_cond3 i = 1#1), ∀ a, (k0_off454 v519) a + S1x16x128.size a ≤ S65536x16x128.size a)
theorem k0_off454_inb : ∀ (i : grid0.Coords) (v519 : BitVec 32) (k0_hw113 : k0_chk113 i v519), ∀ (k0_h3 : k0_cond3 i = 1#1), ∀ a, (k0_off454 v519) a + S1x16x128.size a ≤ S65536x16x128.size a := fun i v519 k0_hw113 k0_h3 => k0_hw113 k0_h3

def k0_off455 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c49_i32 : BitVec 32 := 49#32
  let v527 : BitVec 32 := Scalar.addi v35 c49_i32
  let v528 : Index := Scalar.indexCast v527
  ![v528.toNat]
def k0_off456 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off457 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c49_i32_277 : BitVec 32 := 49#32
  let v530 : BitVec 32 := Scalar.addi v36 c49_i32_277
  let c0_i32_278 : BitVec 32 := 0#32
  let c0_i32_279 : BitVec 32 := 0#32
  ![v2.toNat, v530.toNat, 0, 0]
def k0_off458 (v529 : BitVec 32) : Fin 3 → Nat :=
  let c0_i32_280 : BitVec 32 := 0#32
  let c0_i32_281 : BitVec 32 := 0#32
  ![v529.toNat, 0, 0]

def k0_chk114 (i : grid0.Coords) (v529 : BitVec 32) : Prop :=
  (∀ (k0_h3 : k0_cond3 i = 1#1), ∀ a, (k0_off458 v529) a + S1x16x128.size a ≤ S65536x16x128.size a)
theorem k0_off458_inb : ∀ (i : grid0.Coords) (v529 : BitVec 32) (k0_hw114 : k0_chk114 i v529), ∀ (k0_h3 : k0_cond3 i = 1#1), ∀ a, (k0_off458 v529) a + S1x16x128.size a ≤ S65536x16x128.size a := fun i v529 k0_hw114 k0_h3 => k0_hw114 k0_h3

def k0_off459 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c50_i32 : BitVec 32 := 50#32
  let v537 : BitVec 32 := Scalar.addi v35 c50_i32
  let v538 : Index := Scalar.indexCast v537
  ![v538.toNat]
def k0_off460 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off461 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c50_i32_282 : BitVec 32 := 50#32
  let v540 : BitVec 32 := Scalar.addi v36 c50_i32_282
  let c0_i32_283 : BitVec 32 := 0#32
  let c0_i32_284 : BitVec 32 := 0#32
  ![v2.toNat, v540.toNat, 0, 0]
def k0_off462 (v539 : BitVec 32) : Fin 3 → Nat :=
  let c0_i32_285 : BitVec 32 := 0#32
  let c0_i32_286 : BitVec 32 := 0#32
  ![v539.toNat, 0, 0]

def k0_chk115 (i : grid0.Coords) (v539 : BitVec 32) : Prop :=
  (∀ (k0_h3 : k0_cond3 i = 1#1), ∀ a, (k0_off462 v539) a + S1x16x128.size a ≤ S65536x16x128.size a)
theorem k0_off462_inb : ∀ (i : grid0.Coords) (v539 : BitVec 32) (k0_hw115 : k0_chk115 i v539), ∀ (k0_h3 : k0_cond3 i = 1#1), ∀ a, (k0_off462 v539) a + S1x16x128.size a ≤ S65536x16x128.size a := fun i v539 k0_hw115 k0_h3 => k0_hw115 k0_h3

def k0_off463 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c51_i32 : BitVec 32 := 51#32
  let v547 : BitVec 32 := Scalar.addi v35 c51_i32
  let v548 : Index := Scalar.indexCast v547
  ![v548.toNat]
def k0_off464 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off465 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c51_i32_287 : BitVec 32 := 51#32
  let v550 : BitVec 32 := Scalar.addi v36 c51_i32_287
  let c0_i32_288 : BitVec 32 := 0#32
  let c0_i32_289 : BitVec 32 := 0#32
  ![v2.toNat, v550.toNat, 0, 0]
def k0_off466 (v549 : BitVec 32) : Fin 3 → Nat :=
  let c0_i32_290 : BitVec 32 := 0#32
  let c0_i32_291 : BitVec 32 := 0#32
  ![v549.toNat, 0, 0]

def k0_chk116 (i : grid0.Coords) (v549 : BitVec 32) : Prop :=
  (∀ (k0_h3 : k0_cond3 i = 1#1), ∀ a, (k0_off466 v549) a + S1x16x128.size a ≤ S65536x16x128.size a)
theorem k0_off466_inb : ∀ (i : grid0.Coords) (v549 : BitVec 32) (k0_hw116 : k0_chk116 i v549), ∀ (k0_h3 : k0_cond3 i = 1#1), ∀ a, (k0_off466 v549) a + S1x16x128.size a ≤ S65536x16x128.size a := fun i v549 k0_hw116 k0_h3 => k0_hw116 k0_h3

def k0_off467 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c52_i32 : BitVec 32 := 52#32
  let v557 : BitVec 32 := Scalar.addi v35 c52_i32
  let v558 : Index := Scalar.indexCast v557
  ![v558.toNat]
def k0_off468 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off469 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c52_i32_292 : BitVec 32 := 52#32
  let v560 : BitVec 32 := Scalar.addi v36 c52_i32_292
  let c0_i32_293 : BitVec 32 := 0#32
  let c0_i32_294 : BitVec 32 := 0#32
  ![v2.toNat, v560.toNat, 0, 0]
def k0_off470 (v559 : BitVec 32) : Fin 3 → Nat :=
  let c0_i32_295 : BitVec 32 := 0#32
  let c0_i32_296 : BitVec 32 := 0#32
  ![v559.toNat, 0, 0]

def k0_chk117 (i : grid0.Coords) (v559 : BitVec 32) : Prop :=
  (∀ (k0_h3 : k0_cond3 i = 1#1), ∀ a, (k0_off470 v559) a + S1x16x128.size a ≤ S65536x16x128.size a)
theorem k0_off470_inb : ∀ (i : grid0.Coords) (v559 : BitVec 32) (k0_hw117 : k0_chk117 i v559), ∀ (k0_h3 : k0_cond3 i = 1#1), ∀ a, (k0_off470 v559) a + S1x16x128.size a ≤ S65536x16x128.size a := fun i v559 k0_hw117 k0_h3 => k0_hw117 k0_h3

def k0_off471 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c53_i32 : BitVec 32 := 53#32
  let v567 : BitVec 32 := Scalar.addi v35 c53_i32
  let v568 : Index := Scalar.indexCast v567
  ![v568.toNat]
def k0_off472 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off473 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c53_i32_297 : BitVec 32 := 53#32
  let v570 : BitVec 32 := Scalar.addi v36 c53_i32_297
  let c0_i32_298 : BitVec 32 := 0#32
  let c0_i32_299 : BitVec 32 := 0#32
  ![v2.toNat, v570.toNat, 0, 0]
def k0_off474 (v569 : BitVec 32) : Fin 3 → Nat :=
  let c0_i32_300 : BitVec 32 := 0#32
  let c0_i32_301 : BitVec 32 := 0#32
  ![v569.toNat, 0, 0]

def k0_chk118 (i : grid0.Coords) (v569 : BitVec 32) : Prop :=
  (∀ (k0_h3 : k0_cond3 i = 1#1), ∀ a, (k0_off474 v569) a + S1x16x128.size a ≤ S65536x16x128.size a)
theorem k0_off474_inb : ∀ (i : grid0.Coords) (v569 : BitVec 32) (k0_hw118 : k0_chk118 i v569), ∀ (k0_h3 : k0_cond3 i = 1#1), ∀ a, (k0_off474 v569) a + S1x16x128.size a ≤ S65536x16x128.size a := fun i v569 k0_hw118 k0_h3 => k0_hw118 k0_h3

def k0_off475 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c54_i32 : BitVec 32 := 54#32
  let v577 : BitVec 32 := Scalar.addi v35 c54_i32
  let v578 : Index := Scalar.indexCast v577
  ![v578.toNat]
def k0_off476 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off477 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c54_i32_302 : BitVec 32 := 54#32
  let v580 : BitVec 32 := Scalar.addi v36 c54_i32_302
  let c0_i32_303 : BitVec 32 := 0#32
  let c0_i32_304 : BitVec 32 := 0#32
  ![v2.toNat, v580.toNat, 0, 0]
def k0_off478 (v579 : BitVec 32) : Fin 3 → Nat :=
  let c0_i32_305 : BitVec 32 := 0#32
  let c0_i32_306 : BitVec 32 := 0#32
  ![v579.toNat, 0, 0]

def k0_chk119 (i : grid0.Coords) (v579 : BitVec 32) : Prop :=
  (∀ (k0_h3 : k0_cond3 i = 1#1), ∀ a, (k0_off478 v579) a + S1x16x128.size a ≤ S65536x16x128.size a)
theorem k0_off478_inb : ∀ (i : grid0.Coords) (v579 : BitVec 32) (k0_hw119 : k0_chk119 i v579), ∀ (k0_h3 : k0_cond3 i = 1#1), ∀ a, (k0_off478 v579) a + S1x16x128.size a ≤ S65536x16x128.size a := fun i v579 k0_hw119 k0_h3 => k0_hw119 k0_h3

def k0_off479 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c55_i32 : BitVec 32 := 55#32
  let v587 : BitVec 32 := Scalar.addi v35 c55_i32
  let v588 : Index := Scalar.indexCast v587
  ![v588.toNat]
def k0_off480 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off481 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c55_i32_307 : BitVec 32 := 55#32
  let v590 : BitVec 32 := Scalar.addi v36 c55_i32_307
  let c0_i32_308 : BitVec 32 := 0#32
  let c0_i32_309 : BitVec 32 := 0#32
  ![v2.toNat, v590.toNat, 0, 0]
def k0_off482 (v589 : BitVec 32) : Fin 3 → Nat :=
  let c0_i32_310 : BitVec 32 := 0#32
  let c0_i32_311 : BitVec 32 := 0#32
  ![v589.toNat, 0, 0]

def k0_chk120 (i : grid0.Coords) (v589 : BitVec 32) : Prop :=
  (∀ (k0_h3 : k0_cond3 i = 1#1), ∀ a, (k0_off482 v589) a + S1x16x128.size a ≤ S65536x16x128.size a)
theorem k0_off482_inb : ∀ (i : grid0.Coords) (v589 : BitVec 32) (k0_hw120 : k0_chk120 i v589), ∀ (k0_h3 : k0_cond3 i = 1#1), ∀ a, (k0_off482 v589) a + S1x16x128.size a ≤ S65536x16x128.size a := fun i v589 k0_hw120 k0_h3 => k0_hw120 k0_h3

def k0_off483 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c56_i32 : BitVec 32 := 56#32
  let v597 : BitVec 32 := Scalar.addi v35 c56_i32
  let v598 : Index := Scalar.indexCast v597
  ![v598.toNat]
def k0_off484 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off485 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c56_i32_312 : BitVec 32 := 56#32
  let v600 : BitVec 32 := Scalar.addi v36 c56_i32_312
  let c0_i32_313 : BitVec 32 := 0#32
  let c0_i32_314 : BitVec 32 := 0#32
  ![v2.toNat, v600.toNat, 0, 0]
def k0_off486 (v599 : BitVec 32) : Fin 3 → Nat :=
  let c0_i32_315 : BitVec 32 := 0#32
  let c0_i32_316 : BitVec 32 := 0#32
  ![v599.toNat, 0, 0]

def k0_chk121 (i : grid0.Coords) (v599 : BitVec 32) : Prop :=
  (∀ (k0_h3 : k0_cond3 i = 1#1), ∀ a, (k0_off486 v599) a + S1x16x128.size a ≤ S65536x16x128.size a)
theorem k0_off486_inb : ∀ (i : grid0.Coords) (v599 : BitVec 32) (k0_hw121 : k0_chk121 i v599), ∀ (k0_h3 : k0_cond3 i = 1#1), ∀ a, (k0_off486 v599) a + S1x16x128.size a ≤ S65536x16x128.size a := fun i v599 k0_hw121 k0_h3 => k0_hw121 k0_h3

def k0_off487 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c57_i32 : BitVec 32 := 57#32
  let v607 : BitVec 32 := Scalar.addi v35 c57_i32
  let v608 : Index := Scalar.indexCast v607
  ![v608.toNat]
def k0_off488 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off489 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c57_i32_317 : BitVec 32 := 57#32
  let v610 : BitVec 32 := Scalar.addi v36 c57_i32_317
  let c0_i32_318 : BitVec 32 := 0#32
  let c0_i32_319 : BitVec 32 := 0#32
  ![v2.toNat, v610.toNat, 0, 0]
def k0_off490 (v609 : BitVec 32) : Fin 3 → Nat :=
  let c0_i32_320 : BitVec 32 := 0#32
  let c0_i32_321 : BitVec 32 := 0#32
  ![v609.toNat, 0, 0]

def k0_chk122 (i : grid0.Coords) (v609 : BitVec 32) : Prop :=
  (∀ (k0_h3 : k0_cond3 i = 1#1), ∀ a, (k0_off490 v609) a + S1x16x128.size a ≤ S65536x16x128.size a)
theorem k0_off490_inb : ∀ (i : grid0.Coords) (v609 : BitVec 32) (k0_hw122 : k0_chk122 i v609), ∀ (k0_h3 : k0_cond3 i = 1#1), ∀ a, (k0_off490 v609) a + S1x16x128.size a ≤ S65536x16x128.size a := fun i v609 k0_hw122 k0_h3 => k0_hw122 k0_h3

def k0_off491 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c58_i32 : BitVec 32 := 58#32
  let v617 : BitVec 32 := Scalar.addi v35 c58_i32
  let v618 : Index := Scalar.indexCast v617
  ![v618.toNat]
def k0_off492 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off493 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c58_i32_322 : BitVec 32 := 58#32
  let v620 : BitVec 32 := Scalar.addi v36 c58_i32_322
  let c0_i32_323 : BitVec 32 := 0#32
  let c0_i32_324 : BitVec 32 := 0#32
  ![v2.toNat, v620.toNat, 0, 0]
def k0_off494 (v619 : BitVec 32) : Fin 3 → Nat :=
  let c0_i32_325 : BitVec 32 := 0#32
  let c0_i32_326 : BitVec 32 := 0#32
  ![v619.toNat, 0, 0]

def k0_chk123 (i : grid0.Coords) (v619 : BitVec 32) : Prop :=
  (∀ (k0_h3 : k0_cond3 i = 1#1), ∀ a, (k0_off494 v619) a + S1x16x128.size a ≤ S65536x16x128.size a)
theorem k0_off494_inb : ∀ (i : grid0.Coords) (v619 : BitVec 32) (k0_hw123 : k0_chk123 i v619), ∀ (k0_h3 : k0_cond3 i = 1#1), ∀ a, (k0_off494 v619) a + S1x16x128.size a ≤ S65536x16x128.size a := fun i v619 k0_hw123 k0_h3 => k0_hw123 k0_h3

def k0_off495 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c59_i32 : BitVec 32 := 59#32
  let v627 : BitVec 32 := Scalar.addi v35 c59_i32
  let v628 : Index := Scalar.indexCast v627
  ![v628.toNat]
def k0_off496 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off497 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c59_i32_327 : BitVec 32 := 59#32
  let v630 : BitVec 32 := Scalar.addi v36 c59_i32_327
  let c0_i32_328 : BitVec 32 := 0#32
  let c0_i32_329 : BitVec 32 := 0#32
  ![v2.toNat, v630.toNat, 0, 0]
def k0_off498 (v629 : BitVec 32) : Fin 3 → Nat :=
  let c0_i32_330 : BitVec 32 := 0#32
  let c0_i32_331 : BitVec 32 := 0#32
  ![v629.toNat, 0, 0]

def k0_chk124 (i : grid0.Coords) (v629 : BitVec 32) : Prop :=
  (∀ (k0_h3 : k0_cond3 i = 1#1), ∀ a, (k0_off498 v629) a + S1x16x128.size a ≤ S65536x16x128.size a)
theorem k0_off498_inb : ∀ (i : grid0.Coords) (v629 : BitVec 32) (k0_hw124 : k0_chk124 i v629), ∀ (k0_h3 : k0_cond3 i = 1#1), ∀ a, (k0_off498 v629) a + S1x16x128.size a ≤ S65536x16x128.size a := fun i v629 k0_hw124 k0_h3 => k0_hw124 k0_h3

def k0_off499 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c60_i32 : BitVec 32 := 60#32
  let v637 : BitVec 32 := Scalar.addi v35 c60_i32
  let v638 : Index := Scalar.indexCast v637
  ![v638.toNat]
def k0_off500 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off501 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c60_i32_332 : BitVec 32 := 60#32
  let v640 : BitVec 32 := Scalar.addi v36 c60_i32_332
  let c0_i32_333 : BitVec 32 := 0#32
  let c0_i32_334 : BitVec 32 := 0#32
  ![v2.toNat, v640.toNat, 0, 0]
def k0_off502 (v639 : BitVec 32) : Fin 3 → Nat :=
  let c0_i32_335 : BitVec 32 := 0#32
  let c0_i32_336 : BitVec 32 := 0#32
  ![v639.toNat, 0, 0]

def k0_chk125 (i : grid0.Coords) (v639 : BitVec 32) : Prop :=
  (∀ (k0_h3 : k0_cond3 i = 1#1), ∀ a, (k0_off502 v639) a + S1x16x128.size a ≤ S65536x16x128.size a)
theorem k0_off502_inb : ∀ (i : grid0.Coords) (v639 : BitVec 32) (k0_hw125 : k0_chk125 i v639), ∀ (k0_h3 : k0_cond3 i = 1#1), ∀ a, (k0_off502 v639) a + S1x16x128.size a ≤ S65536x16x128.size a := fun i v639 k0_hw125 k0_h3 => k0_hw125 k0_h3

def k0_off503 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c61_i32 : BitVec 32 := 61#32
  let v647 : BitVec 32 := Scalar.addi v35 c61_i32
  let v648 : Index := Scalar.indexCast v647
  ![v648.toNat]
def k0_off504 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off505 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c61_i32_337 : BitVec 32 := 61#32
  let v650 : BitVec 32 := Scalar.addi v36 c61_i32_337
  let c0_i32_338 : BitVec 32 := 0#32
  let c0_i32_339 : BitVec 32 := 0#32
  ![v2.toNat, v650.toNat, 0, 0]
def k0_off506 (v649 : BitVec 32) : Fin 3 → Nat :=
  let c0_i32_340 : BitVec 32 := 0#32
  let c0_i32_341 : BitVec 32 := 0#32
  ![v649.toNat, 0, 0]

def k0_chk126 (i : grid0.Coords) (v649 : BitVec 32) : Prop :=
  (∀ (k0_h3 : k0_cond3 i = 1#1), ∀ a, (k0_off506 v649) a + S1x16x128.size a ≤ S65536x16x128.size a)
theorem k0_off506_inb : ∀ (i : grid0.Coords) (v649 : BitVec 32) (k0_hw126 : k0_chk126 i v649), ∀ (k0_h3 : k0_cond3 i = 1#1), ∀ a, (k0_off506 v649) a + S1x16x128.size a ≤ S65536x16x128.size a := fun i v649 k0_hw126 k0_h3 => k0_hw126 k0_h3

def k0_off507 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c62_i32 : BitVec 32 := 62#32
  let v657 : BitVec 32 := Scalar.addi v35 c62_i32
  let v658 : Index := Scalar.indexCast v657
  ![v658.toNat]
def k0_off508 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off509 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c62_i32_342 : BitVec 32 := 62#32
  let v660 : BitVec 32 := Scalar.addi v36 c62_i32_342
  let c0_i32_343 : BitVec 32 := 0#32
  let c0_i32_344 : BitVec 32 := 0#32
  ![v2.toNat, v660.toNat, 0, 0]
def k0_off510 (v659 : BitVec 32) : Fin 3 → Nat :=
  let c0_i32_345 : BitVec 32 := 0#32
  let c0_i32_346 : BitVec 32 := 0#32
  ![v659.toNat, 0, 0]

def k0_chk127 (i : grid0.Coords) (v659 : BitVec 32) : Prop :=
  (∀ (k0_h3 : k0_cond3 i = 1#1), ∀ a, (k0_off510 v659) a + S1x16x128.size a ≤ S65536x16x128.size a)
theorem k0_off510_inb : ∀ (i : grid0.Coords) (v659 : BitVec 32) (k0_hw127 : k0_chk127 i v659), ∀ (k0_h3 : k0_cond3 i = 1#1), ∀ a, (k0_off510 v659) a + S1x16x128.size a ≤ S65536x16x128.size a := fun i v659 k0_hw127 k0_h3 => k0_hw127 k0_h3

def k0_off511 (i : grid0.Coords) (k0_t2 : Fin k0_t2_loop.trips) : Fin 1 → Nat :=
  let arg0 : BitVec 32 := BitVec.ofNat 32 (i 0).val
  let c16_i32_19 : BitVec 32 := 16#32
  let v30 : BitVec 32 := Scalar.muli arg0 c16_i32_19
  let arg1 : BitVec 32 := BitVec.ofNat 32 (i 1).val
  let c1_i32_18 : BitVec 32 := 1#32
  let v29 : BitVec 32 := Scalar.addi arg1 c1_i32_18
  let v31 : BitVec 32 := Scalar.addi v30 v29
  let c512_i32_20 : BitVec 32 := 512#32
  let v32 : BitVec 32 := Scalar.muli v31 c512_i32_20
  let c0_i32_21 : BitVec 32 := 0#32
  let c1_i32_22 : BitVec 32 := 1#32
  let arg8 : BitVec 32 := Scf.iv c0_i32_21 c1_i32_22 k0_t2
  let c64_i32 : BitVec 32 := 64#32
  let v34 : BitVec 32 := Scalar.muli arg8 c64_i32
  let v35 : BitVec 32 := Scalar.addi v32 v34
  let c63_i32 : BitVec 32 := 63#32
  let v667 : BitVec 32 := Scalar.addi v35 c63_i32
  let v668 : Index := Scalar.indexCast v667
  ![v668.toNat]
def k0_off512 (i : grid0.Coords) : Fin 1 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  ![v2.toNat]
def k0_off513 (i : grid0.Coords) (k0_t2 : Fin k0_t2_loop.trips) : Fin 4 → Nat :=
  let arg1 : BitVec 32 := BitVec.ofNat 32 (i 1).val
  let c1_i32 : BitVec 32 := 1#32
  let v1 : BitVec 32 := Scalar.addi arg1 c1_i32
  let c4_i32_0 : BitVec 32 := 4#32
  let v2 : BitVec 32 := Scalar.remsi v1 c4_i32_0
  let c0_i32_21 : BitVec 32 := 0#32
  let c1_i32_22 : BitVec 32 := 1#32
  let arg8 : BitVec 32 := Scf.iv c0_i32_21 c1_i32_22 k0_t2
  let c64_i32_24 : BitVec 32 := 64#32
  let v36 : BitVec 32 := Scalar.muli arg8 c64_i32_24
  let c63_i32_347 : BitVec 32 := 63#32
  let v670 : BitVec 32 := Scalar.addi v36 c63_i32_347
  let c0_i32_348 : BitVec 32 := 0#32
  let c0_i32_349 : BitVec 32 := 0#32
  ![v2.toNat, v670.toNat, 0, 0]
def k0_off514 (v669 : BitVec 32) : Fin 3 → Nat :=
  let c0_i32_350 : BitVec 32 := 0#32
  let c0_i32_351 : BitVec 32 := 0#32
  ![v669.toNat, 0, 0]

def k0_chk128 (i : grid0.Coords) (v669 : BitVec 32) : Prop :=
  (∀ (k0_h3 : k0_cond3 i = 1#1), ∀ a, (k0_off514 v669) a + S1x16x128.size a ≤ S65536x16x128.size a)
theorem k0_off514_inb : ∀ (i : grid0.Coords) (v669 : BitVec 32) (k0_hw128 : k0_chk128 i v669), ∀ (k0_h3 : k0_cond3 i = 1#1), ∀ a, (k0_off514 v669) a + S1x16x128.size a ≤ S65536x16x128.size a := fun i v669 k0_hw128 k0_h3 => k0_hw128 k0_h3

def k0_off515 (i : grid0.Coords) : Fin 1 → Nat :=
  let arg1 : BitVec 32 := BitVec.ofNat 32 (i 1).val
  let c4_i32 : BitVec 32 := 4#32
  let v0 : BitVec 32 := Scalar.remsi arg1 c4_i32
  ![v0.toNat]
def k0_off516 (i : grid0.Coords) : Fin 4 → Nat :=
  let arg1 : BitVec 32 := BitVec.ofNat 32 (i 1).val
  let c4_i32 : BitVec 32 := 4#32
  let v0 : BitVec 32 := Scalar.remsi arg1 c4_i32
  let c0_i32_5 : BitVec 32 := 0#32
  let c0_i32_6 : BitVec 32 := 0#32
  let c0_i32_7 : BitVec 32 := 0#32
  ![v0.toNat, 0, 0, 0]
def k0_off517 (i : grid0.Coords) : Fin 3 → Nat :=
  let arg0 : BitVec 32 := BitVec.ofNat 32 (i 0).val
  let c16_i32_11 : BitVec 32 := 16#32
  let v18 : BitVec 32 := Scalar.muli arg0 c16_i32_11
  let arg1 : BitVec 32 := BitVec.ofNat 32 (i 1).val
  let v19 : BitVec 32 := Scalar.addi v18 arg1
  let c512_i32 : BitVec 32 := 512#32
  let v20 : BitVec 32 := Scalar.muli v19 c512_i32
  let c0_i32_12 : BitVec 32 := 0#32
  let c0_i32_13 : BitVec 32 := 0#32
  ![v20.toNat, 0, 0]
-- ==== ReferenceIdeal.lean ====
abbrev S8x2048 : Shape := ⟨2, ![8, 2048]⟩
abbrev S65536x64x32 : Shape := ⟨3, ![65536, 64, 32]⟩
abbrev S_ : Shape := ⟨0, ![]⟩
abbrev S8x2048x1 : Shape := ⟨3, ![8, 2048, 1]⟩
abbrev S1 : Shape := ⟨1, ![1]⟩
abbrev S1x1x1 : Shape := ⟨3, ![1, 1, 1]⟩
abbrev S8x2048x64x32 : Shape := ⟨4, ![8, 2048, 64, 32]⟩

abbrev nBuf : Space → Nat
  | .hbm => 25
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S65536x64x32, .f32⟩
  | .hbm, ⟨2, _⟩ => ⟨S_, .i32⟩
  | .hbm, ⟨3, _⟩ => ⟨S8x2048, .i32⟩
  | .hbm, ⟨4, _⟩ => ⟨S8x2048, .i1⟩
  | .hbm, ⟨5, _⟩ => ⟨S_, .i32⟩
  | .hbm, ⟨6, _⟩ => ⟨S8x2048, .i32⟩
  | .hbm, ⟨7, _⟩ => ⟨S8x2048, .i32⟩
  | .hbm, ⟨8, _⟩ => ⟨S8x2048, .i32⟩
  | .hbm, ⟨9, _⟩ => ⟨S8x2048x1, .i32⟩
  | .hbm, ⟨10, _⟩ => ⟨S1, .i32⟩
  | .hbm, ⟨11, _⟩ => ⟨S_, .i32⟩
  | .hbm, ⟨12, _⟩ => ⟨S8x2048x1, .i32⟩
  | .hbm, ⟨13, _⟩ => ⟨S8x2048x1, .i1⟩
  | .hbm, ⟨14, _⟩ => ⟨S1x1x1, .i32⟩
  | .hbm, ⟨15, _⟩ => ⟨S8x2048x1, .i32⟩
  | .hbm, ⟨16, _⟩ => ⟨S8x2048x1, .i1⟩
  | .hbm, ⟨17, _⟩ => ⟨S8x2048x1, .i1⟩
  | .hbm, ⟨18, _⟩ => ⟨S_, .i1⟩
  | .hbm, ⟨19, _⟩ => ⟨S8x2048, .i1⟩
  | .hbm, ⟨20, _⟩ => ⟨S8x2048x64x32, .f32⟩
  | .hbm, ⟨21, _⟩ => ⟨S8x2048x64x32, .i1⟩
  | .hbm, ⟨22, _⟩ => ⟨S_, .f32⟩
  | .hbm, ⟨23, _⟩ => ⟨S8x2048x64x32, .f32⟩
  | .hbm, ⟨24, _⟩ => ⟨S8x2048x64x32, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Rows.lean ====
module

public import proofs.«01_k».proof.Defs
public import proofs.«01_k».proof.Proof.Gen.Kernel.Skeleton
public import Idealize.ShloMosaic.Lib.Pipeline.Regions

@[expose] public section

noncomputable section

namespace Cert.Proof

open Cert.Kernel Cert.Kernel.Gen
open Idealize.ShloMosaic Idealize.SL.Sem

variable {F : FTy → Type} [FloatOps F]

/-- The offset of table row `v`. -/
abbrev rowOff (v : BitVec 32) : Fin 3 → Nat := ![v.toNat, 0, 0]

/-- One row copy of the kernel: read an id at `off`, check it, and start the copy of that table row into the
row of the ring buffer at `odst`, signalling the semaphore at `osem`. -/
def copyRow (arg2 : Memref sig .tc .smem S16384 .i32) (arg3 : Memref sig .tc .hbm S65536x16x128 .f32)
    (arg5 : Memref sig .tc .vmem S4x512x16x128 .f32) (arg6 : DmaSems sig S4)
    (P : BitVec 32 → Prop) (dec : ∀ v, Decidable (P v))
    (hP : ∀ v, P v → ∀ a, rowOff v a + S1x16x128.size a ≤ S65536x16x128.size a)
    (off : Fin 1 → Nat) (hoff : ∀ a, off a + S1.size a ≤ S16384.size a)
    (osem : Fin 1 → Nat) (hosem : ∀ a, osem a + S1.size a ≤ S4.size a)
    (odst : Fin 4 → Nat) (hodst : ∀ a, odst a + S1x1x16x128.size a ≤ S4x512x16x128.size a) :
    Prog (TpuEff nD τ sig (Elt F) Λ₀ .tc) PUnit := do
  let v : Elt F .i32 ← smemLoad arg2 (Rect.unit (s := S16384) off S1.size hoff) numel1_S1 rfl
  have hw : P v := (← Prog.lift (TpuEff.assume (P v) (dec v))).down
  Prog.lift (.enqueueDma
    ((arg3.slice (Rect.unit (s := S65536x16x128) (rowOff v) S1x16x128.size (hP v hw)) (fun _ => rfl)).squeeze
      S16x128 squeezes_S1x16x128_S16x128)
    (.here ((arg5.slice (Rect.unit (s := S4x512x16x128) odst S1x1x16x128.size hodst) (fun _ => rfl)).squeeze
      S16x128 squeezes_S1x1x16x128_S16x128))
    (.dma ((arg6.slice (Rect.unit (s := S4) osem S1.size hosem)).squeeze S_ squeezes_S1_S_).sem)
    ((View.wordExact_bits rfl).reshape _ _) ((View.wordExact_bits rfl).reshape _ _) ⟨Or.inl rfl, trivial⟩)

/-- `f j`, `f (j + 1)`, …, `f 63` one after another. -/
def copyAll (f : (j : ℕ) → j < 64 → Prog (TpuEff nD τ sig (Elt F) Λ₀ .tc) PUnit) :
    (n j : ℕ) → j + n = 64 → Prog (TpuEff nD τ sig (Elt F) Λ₀ .tc) PUnit
  | 0, _, _ => pure ⟨⟩
  | n + 1, j, h => do
    f j (by omega)
    copyAll f n (j + 1) (by omega)

/-- The place of copy `j` of trip `t` in the ids, the step's ids beginning at `w`. -/
def idOff (w t : BitVec 32) (j : ℕ) : Fin 1 → Nat :=
  ![(Scalar.indexCast (Scalar.addi (Scalar.addi w (Scalar.muli t 64#32)) (BitVec.ofNat 32 j))).toNat]
/-- The place of a slot's semaphore. -/
def semOff (sl : BitVec 32) : Fin 1 → Nat := ![sl.toNat]
/-- The place of copy `j` of trip `t` in slot `sl` of the ring buffer. -/
def dstOff (sl t : BitVec 32) (j : ℕ) : Fin 4 → Nat :=
  ![sl.toNat, (Scalar.addi (Scalar.muli t 64#32) (BitVec.ofNat 32 j)).toNat, 0, 0]

theorem idOff_eq (w t : BitVec 32) (j : ℕ) (hw : w.toNat + 512 ≤ 16384) (ht : t.toNat < 8) (hj : j < 64) :
    idOff w t j = ![w.toNat + (t.toNat * 64 + j)] := by
  have h : (Scalar.indexCast (Scalar.addi (Scalar.addi w (Scalar.muli t 64#32)) (BitVec.ofNat 32 j))).toNat
      = w.toNat + (t.toNat * 64 + j) := by
    simp only [Scalar.indexCast, Scalar.addi, Scalar.muli, IntOp.addi, IntOp.muli, BitVec.toNat_add,
      BitVec.toNat_mul, BitVec.toNat_ofNat]
    omega
  rw [idOff, h]

theorem dstOff_eq (sl t : BitVec 32) (j : ℕ) (ht : t.toNat < 8) (hj : j < 64) :
    dstOff sl t j = ![sl.toNat, t.toNat * 64 + j, 0, 0] := by
  have h : (Scalar.addi (Scalar.muli t 64#32) (BitVec.ofNat 32 j)).toNat = t.toNat * 64 + j := by
    simp only [Scalar.addi, Scalar.muli, IntOp.addi, IntOp.muli, BitVec.toNat_add,
      BitVec.toNat_mul, BitVec.toNat_ofNat]
    omega
  rw [dstOff, h]

theorem idOff_inb (w t : BitVec 32) (j : ℕ) (hw : w.toNat + 512 ≤ 16384) (ht : t.toNat < 8) (hj : j < 64) :
    ∀ a, idOff w t j a + S1.size a ≤ S16384.size a := by
  rw [idOff_eq w t j hw ht hj]
  intro a
  match a with
  | 0 => show w.toNat + (t.toNat * 64 + j) + 1 ≤ 16384; omega

theorem semOff_inb (sl : BitVec 32) (hsl : sl.toNat < 4) : ∀ a, semOff sl a + S1.size a ≤ S4.size a := by
  intro a
  match a with
  | 0 => show sl.toNat + 1 ≤ 4; omega

theorem dstOff_inb (sl t : BitVec 32) (j : ℕ) (hsl : sl.toNat < 4) (ht : t.toNat < 8) (hj : j < 64) :
    ∀ a, dstOff sl t j a + S1x1x16x128.size a ≤ S4x512x16x128.size a := by
  rw [dstOff_eq sl t j ht hj]
  intro a
  match a with
  | 0 => show sl.toNat + 1 ≤ 4; omega
  | 1 => show t.toNat * 64 + j + 1 ≤ 512; omega
  | 2 => show 0 + 16 ≤ 16; omega
  | 3 => show 0 + 128 ≤ 128; omega

/-- One trip of either copy loop: sixty-four row copies. -/
def trip (arg2 : Memref sig .tc .smem S16384 .i32) (arg3 : Memref sig .tc .hbm S65536x16x128 .f32)
    (arg5 : Memref sig .tc .vmem S4x512x16x128 .f32) (arg6 : DmaSems sig S4)
    (P : BitVec 32 → Prop) (dec : ∀ v, Decidable (P v))
    (hP : ∀ v, P v → ∀ a, rowOff v a + S1x16x128.size a ≤ S65536x16x128.size a)
    (w sl t : BitVec 32) (hw : w.toNat + 512 ≤ 16384) (hsl : sl.toNat < 4) (ht : t.toNat < 8) :
    Prog (TpuEff nD τ sig (Elt F) Λ₀ .tc) PUnit :=
  copyAll (fun j hj => copyRow arg2 arg3 arg5 arg6 P dec hP (idOff w t j) (idOff_inb w t j hw ht hj)
    (semOff sl) (semOff_inb sl hsl) (dstOff sl t j) (dstOff_inb sl t j hsl ht hj)) 64 0 rfl

/-- Where the ids of the core's first step begin. -/
def word1 (i : grid0.Coords) : BitVec 32 :=
  Scalar.muli (Scalar.addi (Scalar.muli (BitVec.ofNat 32 (i 0).val) 16#32) 0#32) 512#32
/-- Where the ids of the next step begin. -/
def word2 (i : grid0.Coords) : BitVec 32 :=
  Scalar.muli (Scalar.addi (Scalar.muli (BitVec.ofNat 32 (i 0).val) 16#32)
    (Scalar.addi (BitVec.ofNat 32 (i 1).val) 1#32)) 512#32
/-- The step's slot. -/
def slot1 (i : grid0.Coords) : BitVec 32 := Scalar.remsi (BitVec.ofNat 32 (i 1).val) 4#32
/-- The next step's slot. -/
def slot2 (i : grid0.Coords) : BitVec 32 :=
  Scalar.remsi (Scalar.addi (BitVec.ofNat 32 (i 1).val) 1#32) 4#32

theorem t1_body_eq (i : grid0.Coords) (arg2 : Memref sig .tc .smem S16384 .i32) (harg2 : arg2.IsWhole) (arg3 : Memref sig .tc .hbm S65536x16x128 .f32) (harg3 : arg3.IsWhole) (arg4 : Memref sig .tc .hbm S16384x16x128 .f32) (harg4 : arg4.IsWhole) (arg5 : Memref sig .tc .vmem S4x512x16x128 .f32) (harg5 : arg5.IsWhole) (arg6 : DmaSems sig S4) (arg7 : DmaSems sig S4)
    (h1 : k0_cond1 i = 1#1) (v31 : BitVec 32) (t : Fin k0_t1_loop.trips)
    (hw : (word1 i).toNat + 512 ≤ 16384) (hsl : (slot1 i).toNat < 4) (ht : (Scf.iv 0#32 1#32 t).toNat < 8) :
    k0_t1_body (F := F) i arg2 harg2 arg3 harg3 arg4 harg4 arg5 harg5 arg6 arg7 h1 v31 t ()
      = trip arg2 arg3 arg5 arg6 (k0_chk1 i) (k0_chk1.dec i) (fun v hv => hv h1)
          (word1 i) (slot1 i) (Scf.iv 0#32 1#32 t) hw hsl ht := by
  chain_rfl

theorem t2_body_eq (i : grid0.Coords) (arg2 : Memref sig .tc .smem S16384 .i32) (harg2 : arg2.IsWhole) (arg3 : Memref sig .tc .hbm S65536x16x128 .f32) (harg3 : arg3.IsWhole) (arg4 : Memref sig .tc .hbm S16384x16x128 .f32) (harg4 : arg4.IsWhole) (arg5 : Memref sig .tc .vmem S4x512x16x128 .f32) (harg5 : arg5.IsWhole) (arg6 : DmaSems sig S4) (arg7 : DmaSems sig S4)
    (h3 : k0_cond3 i = 1#1) (v32 : BitVec 32) (t : Fin k0_t2_loop.trips)
    (hw : (word2 i).toNat + 512 ≤ 16384) (hsl : (slot2 i).toNat < 4) (ht : (Scf.iv 0#32 1#32 t).toNat < 8) :
    k0_t2_body (F := F) i arg2 harg2 arg3 harg3 arg4 harg4 arg5 harg5 arg6 arg7 h3 v32 t ()
      = trip arg2 arg3 arg5 arg6 (k0_chk65 i) (k0_chk65.dec i) (fun v hv => hv h3)
          (word2 i) (slot2 i) (Scf.iv 0#32 1#32 t) hw hsl ht := by
  chain_rfl

end Cert.Proof
-- ==== Proof.Model.lean ====
module

public import proofs.«01_k».proof.Proof.Rows

@[expose] public section

noncomputable section

namespace Cert.Proof

open Cert.Kernel Cert.Kernel.Gen
open Idealize.ShloMosaic Idealize.SL.Sem

variable {F : FTy → Type} [FloatOps F]

/-- A program of one grid point. -/
abbrev KProg (F : FTy → Type) [FloatOps F] (α : Type) : Type 1 := Prog (TpuEff nD τ sig (Elt F) Λ₀ .tc) α

/-- The ids, in scalar memory. -/
abbrev idsM : Memref sig .tc .smem S16384 .i32 := Memref.whole main_v0
/-- The table, row by row. -/
abbrev tabM : Memref sig .tc .hbm S65536x16x128 .f32 := Memref.whole main_v1
/-- The output, row by row. -/
abbrev outM : Memref sig .tc .hbm S16384x16x128 .f32 := Memref.whole main_v2
/-- The ring of four slots. -/
abbrev bufM : Memref sig .tc .vmem S4x512x16x128 .f32 := Memref.whole cc0_scratch0

/-! ## The words of a grid point -/

theorem slot1_eq (i : grid0.Coords) : (slot1 i).toNat = (i 1).val % 4 := by
  have h : ∀ x : Fin 16, (Scalar.remsi (BitVec.ofNat 32 x.val) 4#32).toNat = x.val % 4 := by decide
  exact h (i 1)

theorem slot2_eq (i : grid0.Coords) : (slot2 i).toNat = ((i 1).val + 1) % 4 := by
  have h : ∀ x : Fin 16, (Scalar.remsi (Scalar.addi (BitVec.ofNat 32 x.val) 1#32) 4#32).toNat = (x.val + 1) % 4 := by
    decide
  exact h (i 1)

theorem word1_eq (i : grid0.Coords) : (word1 i).toNat = ((i 0).val * 16) * 512 := by
  have h : ∀ x : Fin 2, (Scalar.muli (Scalar.addi (Scalar.muli (BitVec.ofNat 32 x.val) 16#32) 0#32) 512#32).toNat
      = (x.val * 16) * 512 := by decide
  exact h (i 0)

theorem word2_eq (i : grid0.Coords) : (word2 i).toNat = ((i 0).val * 16 + ((i 1).val + 1)) * 512 := by
  have h : ∀ (x : Fin 2) (y : Fin 16), (Scalar.muli (Scalar.addi (Scalar.muli (BitVec.ofNat 32 x.val) 16#32)
      (Scalar.addi (BitVec.ofNat 32 y.val) 1#32)) 512#32).toNat = (x.val * 16 + (y.val + 1)) * 512 := by decide
  exact h (i 0) (i 1)

theorem cond1_iff (i : grid0.Coords) : k0_cond1 i = 1#1 ↔ (i 1).val = 0 := by
  have h : ∀ y : Fin 16, (Scalar.cmpi .ne (Scalar.extui (Scalar.cmpi .eq (BitVec.ofNat 32 y.val) 0#32) : BitVec 32) 0#32
      = 1#1 ↔ y.val = 0) := by decide
  exact h (i 1)

theorem cond2_iff (i : grid0.Coords) : k0_cond2 i = 1#1 ↔ 3 ≤ (i 1).val := by
  have h : ∀ y : Fin 16, (Scalar.cmpi .ne (Scalar.extui (Scalar.cmpi .sge (BitVec.ofNat 32 y.val) 3#32) : BitVec 32) 0#32
      = 1#1 ↔ 3 ≤ y.val) := by decide
  exact h (i 1)

theorem cond3_iff (i : grid0.Coords) : k0_cond3 i = 1#1 ↔ (i 1).val + 1 < 16 := by
  have h : ∀ y : Fin 16, (Scalar.cmpi .ne (Scalar.extui (Scalar.cmpi .slt (Scalar.addi (BitVec.ofNat 32 y.val) 1#32) 16#32)
      : BitVec 32) 0#32 = 1#1 ↔ y.val + 1 < 16) := by decide
  exact h (i 1)

/-- The last step of a core. -/
def last (i : grid0.Coords) : BitVec 1 :=
  Scalar.cmpi .ne (Scalar.extui (Scalar.cmpi .eq (BitVec.ofNat 32 (i 1).val) 15#32) : BitVec 32) 0#32

theorem last_iff (i : grid0.Coords) : last i = 1#1 ↔ (i 1).val = 15 := by
  have h : ∀ y : Fin 16, (Scalar.cmpi .ne (Scalar.extui (Scalar.cmpi .eq (BitVec.ofNat 32 y.val) 15#32) : BitVec 32) 0#32
      = 1#1 ↔ y.val = 15) := by decide
  exact h (i 1)

theorem lt0 (i : grid0.Coords) : (i 0).val < 2 := (i 0).isLt
theorem lt1 (i : grid0.Coords) : (i 1).val < 16 := (i 1).isLt

theorem word1_le (i : grid0.Coords) : (word1 i).toNat + 512 ≤ 16384 := by
  rw [word1_eq]; have := lt0 i; omega
theorem word2_le (i : grid0.Coords) (h : k0_cond3 i = 1#1) : (word2 i).toNat + 512 ≤ 16384 := by
  rw [word2_eq]; have := lt0 i; have := (cond3_iff i).mp h; omega
theorem slot1_lt (i : grid0.Coords) : (slot1 i).toNat < 4 := by rw [slot1_eq]; omega
theorem slot2_lt (i : grid0.Coords) : (slot2 i).toNat < 4 := by rw [slot2_eq]; omega

/-- The word of a trip is its number. -/
theorem iv_eq (n : ℕ) (h : n < 8) : (Scf.iv 0#32 1#32 n).toNat = n := by
  have h' : ∀ x : Fin 8, (Scf.iv 0#32 1#32 x.val).toNat = x.val := by decide
  exact h' ⟨n, h⟩

theorem trips1 : k0_t1_loop.trips = 8 := by decide
theorem trips2 : k0_t2_loop.trips = 8 := by decide

theorem iv1_lt (t : Fin k0_t1_loop.trips) : (Scf.iv 0#32 1#32 t).toNat < 8 := by
  have h : t.val < 8 := lt_of_lt_of_eq t.isLt trips1
  rw [iv_eq _ h]; exact h
theorem iv2_lt (t : Fin k0_t2_loop.trips) : (Scf.iv 0#32 1#32 t).toNat < 8 := by
  have h : t.val < 8 := lt_of_lt_of_eq t.isLt trips2
  rw [iv_eq _ h]; exact h

/-! ## The pieces of a grid point's program -/

/-- `P` when `c` holds, then `k`. -/
def whenD {α : Type} (c : Prop) [Decidable c] (P : c → KProg F PUnit) (k : KProg F α) : KProg F α :=
  if h : c then P h >>= fun _ => k else k

/-- The loop that starts the copies of the core's first step. -/
def loop1 (i : grid0.Coords) (h : k0_cond1 i = 1#1) : KProg F Unit :=
  Scf.Loop.for k0_t1_loop (k0_t1_ok i h) () fun t _ =>
    trip idsM tabM bufM cc0_scratch1 (k0_chk1 i) (k0_chk1.dec i) (fun v hv => hv h) (word1 i) (slot1 i)
      (Scf.iv 0#32 1#32 t) (word1_le i) (slot1_lt i) (iv1_lt t)

/-- The loop that starts the copies of the next step. -/
def loop2 (i : grid0.Coords) (h : k0_cond3 i = 1#1) : KProg F Unit :=
  Scf.Loop.for k0_t2_loop (k0_t2_ok i h) () fun t _ =>
    trip idsM tabM bufM cc0_scratch1 (k0_chk65 i) (k0_chk65.dec i) (fun v hv => hv h) (word2 i) (slot2 i)
      (Scf.iv 0#32 1#32 t) (word2_le i h) (slot2_lt i) (iv2_lt t)

/-- The view of one slot of the ring. -/
abbrev slotAt (ob : Fin 4 → Nat) (hob : ∀ a, ob a + S1x512x16x128.size a ≤ S4x512x16x128.size a) :
    Memref sig .tc .vmem S512x16x128 .f32 :=
  (bufM.slice (Rect.unit (s := S4x512x16x128) ob S1x512x16x128.size hob) (fun _ => rfl)).squeeze
    S512x16x128 squeezes_S1x512x16x128_S512x16x128

/-- The view of 512 rows of the output. -/
abbrev outAt (oo : Fin 3 → Nat) (hoo : ∀ a, oo a + S512x16x128.size a ≤ S16384x16x128.size a) :
    Memref sig .tc .hbm S512x16x128 .f32 :=
  outM.slice (Rect.unit (s := S16384x16x128) oo S512x16x128.size hoo) (fun _ => rfl)

/-- One semaphore of an array of four. -/
abbrev semAt (A : DmaSems sig S4) (os : Fin 1 → Nat) (hos : ∀ a, os a + S1.size a ≤ S4.size a) : DmaSem sig :=
  ((A.slice (Rect.unit (s := S4) os S1.size hos)).squeeze S_ squeezes_S1_S_).sem

/-- Wait for a slot's copy out. -/
def waitWrite (os : Fin 1 → Nat) (hos : ∀ a, os a + S1.size a ≤ S4.size a)
    (ob : Fin 4 → Nat) (hob : ∀ a, ob a + S1x512x16x128.size a ≤ S4x512x16x128.size a) : KProg F PUnit :=
  Prog.lift (.waitDma2 (semAt cc0_scratch2 os hos) (slotAt ob hob) (outAt ![0, 0, 0] inb_S16384x16x128_S512x16x128_0_0_0)
    ((View.wordExact_bits rfl).reshape _ _) (View.wordExact_bits rfl))

/-- Wait for a slot's 512 row copies at once. -/
def waitRows (os : Fin 1 → Nat) (hos : ∀ a, os a + S1.size a ≤ S4.size a)
    (ob : Fin 4 → Nat) (hob : ∀ a, ob a + S1x512x16x128.size a ≤ S4x512x16x128.size a) : KProg F PUnit :=
  Prog.lift (.waitDma2 (semAt cc0_scratch1 os hos)
    (tabM.slice (Rect.unit (s := S65536x16x128) ![0, 0, 0] S512x16x128.size inb_S65536x16x128_S512x16x128_0_0_0) (fun _ => rfl))
    (slotAt ob hob) (View.wordExact_bits rfl) ((View.wordExact_bits rfl).reshape _ _))

/-- Start a slot's copy out. -/
def startWrite (os : Fin 1 → Nat) (hos : ∀ a, os a + S1.size a ≤ S4.size a)
    (ob : Fin 4 → Nat) (hob : ∀ a, ob a + S1x512x16x128.size a ≤ S4x512x16x128.size a)
    (oo : Fin 3 → Nat) (hoo : ∀ a, oo a + S512x16x128.size a ≤ S16384x16x128.size a) : KProg F PUnit :=
  Prog.lift (.enqueueDma (slotAt ob hob) (.here (outAt oo hoo)) (.dma (semAt cc0_scratch2 os hos))
    ((View.wordExact_bits rfl).reshape _ _) (View.wordExact_bits rfl) ⟨Or.inl rfl, trivial⟩)

/-- A grid point up to the start of its copy out; `r` is what it hands on. -/
def steady (i : grid0.Coords) {α : Type} (r : α) : KProg F α :=
  whenD (k0_cond1 i = 1#1) (fun h => loop1 i h) <|
  whenD (k0_cond2 i = 1#1) (fun h => waitWrite (k0_off257 i) (k0_off257_inb i h) (k0_off258 i) (k0_off258_inb i h)) <|
  whenD (k0_cond3 i = 1#1) (fun h => loop2 i h) <|
  waitRows (k0_off515 i) (k0_off515_inb i) (k0_off516 i) (k0_off516_inb i) >>= fun _ =>
  startWrite (k0_off515 i) (k0_off515_inb i) (k0_off516 i) (k0_off516_inb i) (k0_off517 i) (k0_off517_inb i) >>= fun _ =>
  pure r

/-- A core's last waits, on the slots whose copies out are still under way. -/
def drain (b : BitVec 1) : KProg F PUnit :=
  whenD (b = 1#1) (fun _ =>
    waitWrite ![1] inb_S4_S1_1 ![1, 0, 0, 0] inb_S4x512x16x128_S1x512x16x128_1_0_0_0 >>= fun _ =>
    waitWrite ![2] inb_S4_S1_2 ![2, 0, 0, 0] inb_S4x512x16x128_S1x512x16x128_2_0_0_0 >>= fun _ =>
    waitWrite ![3] inb_S4_S1_3 ![3, 0, 0, 0] inb_S4x512x16x128_S1x512x16x128_3_0_0_0) <|
  pure ⟨⟩

/-- One grid point. -/
def step (i : grid0.Coords) : KProg F PUnit :=
  steady i ((⟨Scalar.extui (Scalar.cmpi .eq (BitVec.ofNat 32 (i 1).val) 15#32), 0#32⟩ : Σ' (_ : BitVec 32), BitVec 32)) >>= fun r =>
  match r with
  | ⟨v, w⟩ => drain (Scalar.cmpi .ne v w)

/-- The kernel's body at a grid point is `step`. -/
theorem body_eq (i : grid0.Coords) :
    cc0__gather_body (F := F) i idsM (Memref.isWhole_whole _) tabM (Memref.isWhole_whole _) outM (Memref.isWhole_whole _)
      bufM (Memref.isWhole_whole _) cc0_scratch1 cc0_scratch2 = step i := by
  chain_rfl

end Cert.Proof
-- ==== Proof.Geometry.lean ====
module

public import proofs.«01_k».proof.Proof.Model
public import Idealize.ShloMosaic.Lib.QrPanel.StackBlock

@[expose] public section

noncomputable section

namespace Cert.Proof

open Cert.Kernel Cert.Kernel.Gen
open Idealize.ShloMosaic Idealize.SL.Sem
open Idealize.ShloMosaic.ValueIdx (ix1 ix2 ix3 ix4)
open Idealize.ShloMosaic.QrPanel.StackBlock (reshapeEquiv_cons_one_one)

variable {F : FTy → Type} [FloatOps F]

/-! ## The views -/

/-- The view of one row of the ring. -/
abbrev rowAt (off : Fin 4 → Nat) (h : ∀ a, off a + S1x1x16x128.size a ≤ S4x512x16x128.size a) :
    Memref sig .tc .vmem S16x128 .f32 :=
  (bufM.slice (Rect.unit (s := S4x512x16x128) off S1x1x16x128.size h) (fun _ => rfl)).squeeze
    S16x128 squeezes_S1x1x16x128_S16x128

/-- The view of one row of the table. -/
abbrev tabAt (off : Fin 3 → Nat) (h : ∀ a, off a + S1x16x128.size a ≤ S65536x16x128.size a) :
    Memref sig .tc .hbm S16x128 .f32 :=
  (tabM.slice (Rect.unit (s := S65536x16x128) off S1x16x128.size h) (fun _ => rfl)).squeeze
    S16x128 squeezes_S1x16x128_S16x128

/-! ## The elements -/

/-- The elements of row `r` of slot `b`. -/
def rowSet (b r : ℕ) : Finset S4x512x16x128.Idx := Finset.univ.filter fun y => (y 0).val = b ∧ (y 1).val = r
/-- The elements of slot `b`. -/
def slotSet (b : ℕ) : Finset S4x512x16x128.Idx := Finset.univ.filter fun y => (y 0).val = b
/-- The elements of the output rows from `lo` and below `hi`. -/
def outSet (lo hi : ℕ) : Finset S16384x16x128.Idx := Finset.univ.filter fun y => lo ≤ (y 0).val ∧ (y 0).val < hi

theorem mem_rowSet {b r : ℕ} {y : S4x512x16x128.Idx} : y ∈ rowSet b r ↔ (y 0).val = b ∧ (y 1).val = r := by
  simp [rowSet]
theorem mem_slotSet {b : ℕ} {y : S4x512x16x128.Idx} : y ∈ slotSet b ↔ (y 0).val = b := by simp [slotSet]
theorem mem_outSet {lo hi : ℕ} {y : S16384x16x128.Idx} : y ∈ outSet lo hi ↔ lo ≤ (y 0).val ∧ (y 0).val < hi := by
  simp [outSet]

/-- A row's view covers the row. -/
theorem rowAt_set (b r : ℕ) (off) (ho : off = ![b, r, 0, 0]) (h) : (rowAt off h).view.set = rowSet b r := by
  subst ho
  refine (View.set_reshape _ _).trans ((View.set_slice_whole _ _).trans ?_)
  ext y
  rw [mem_rowSet, Rect.mem_set_unit]
  have h2 : (y 2).val < 16 := (y 2).isLt
  have h3 : (y 3).val < 128 := (y 3).isLt
  constructor
  · intro hy
    have a0 : b ≤ (y 0).val ∧ (y 0).val < b + 1 := hy 0
    have a1 : r ≤ (y 1).val ∧ (y 1).val < r + 1 := hy 1
    omega
  · rintro ⟨e0, e1⟩ a
    match a with
    | 0 => show b ≤ (y 0).val ∧ (y 0).val < b + 1; omega
    | 1 => show r ≤ (y 1).val ∧ (y 1).val < r + 1; omega
    | 2 => show 0 ≤ (y 2).val ∧ (y 2).val < 0 + 16; omega
    | 3 => show 0 ≤ (y 3).val ∧ (y 3).val < 0 + 128; omega

/-- A slot's view covers the slot. -/
theorem slotAt_set (b : ℕ) (off) (ho : off = ![b, 0, 0, 0]) (h) : (slotAt off h).view.set = slotSet b := by
  subst ho
  refine (View.set_reshape _ _).trans ((View.set_slice_whole _ _).trans ?_)
  ext y
  rw [mem_slotSet, Rect.mem_set_unit]
  have h1 : (y 1).val < 512 := (y 1).isLt
  have h2 : (y 2).val < 16 := (y 2).isLt
  have h3 : (y 3).val < 128 := (y 3).isLt
  constructor
  · intro hy
    have a0 : b ≤ (y 0).val ∧ (y 0).val < b + 1 := hy 0
    omega
  · intro e0 a
    match a with
    | 0 => show b ≤ (y 0).val ∧ (y 0).val < b + 1; omega
    | 1 => show 0 ≤ (y 1).val ∧ (y 1).val < 0 + 512; omega
    | 2 => show 0 ≤ (y 2).val ∧ (y 2).val < 0 + 16; omega
    | 3 => show 0 ≤ (y 3).val ∧ (y 3).val < 0 + 128; omega

/-- The view of 512 output rows covers them. -/
theorem outAt_set (u : ℕ) (off) (ho : off = ![u, 0, 0]) (h) : (outAt off h).view.set = outSet u (u + 512) := by
  subst ho
  refine (View.set_slice_whole _ _).trans ?_
  ext y
  rw [mem_outSet, Rect.mem_set_unit]
  have h1 : (y 1).val < 16 := (y 1).isLt
  have h2 : (y 2).val < 128 := (y 2).isLt
  constructor
  · intro hy
    exact hy 0
  · intro e0 a
    match a with
    | 0 => exact e0
    | 1 => show 0 ≤ (y 1).val ∧ (y 1).val < 0 + 16; omega
    | 2 => show 0 ≤ (y 2).val ∧ (y 2).val < 0 + 128; omega

/-! ## The places -/

theorem rowAt_emb (b r : ℕ) (hb : b < 4) (hr : r < 512) (off) (ho : off = ![b, r, 0, 0]) (h) (p : Fin 16) (q : Fin 128) :
    (rowAt off h).view.emb (ix2 p q) = ix4 ⟨b, hb⟩ ⟨r, hr⟩ p q := by
  subst ho
  have e : (rowAt ![b, r, 0, 0] h).view.emb (ix2 p q)
      = (Rect.unit (s := S4x512x16x128) ![b, r, 0, 0] S1x1x16x128.size h).emb
          (Shape.reshapeEquiv squeezes_S1x1x16x128_S16x128.numel_eq (ix2 p q)) := rfl
  rw [e, reshapeEquiv_cons_one_one]
  funext a
  apply Fin.ext
  rw [Rect.emb_apply]
  match a with
  | 0 => show b + 1 * 0 = b; omega
  | 1 => show r + 1 * 0 = r; omega
  | 2 => show 0 + 1 * p.val = p.val; omega
  | 3 => show 0 + 1 * q.val = q.val; omega

theorem tabAt_emb (v : ℕ) (hv : v < 65536) (off) (ho : off = ![v, 0, 0]) (h) (p : Fin 16) (q : Fin 128) :
    (tabAt off h).view.emb (ix2 p q) = ix3 ⟨v, hv⟩ p q := by
  subst ho
  have e : (tabAt ![v, 0, 0] h).view.emb (ix2 p q)
      = (Rect.unit (s := S65536x16x128) ![v, 0, 0] S1x16x128.size h).emb
          (Shape.reshapeEquiv squeezes_S1x16x128_S16x128.numel_eq (ix2 p q)) := rfl
  rw [e, Shape.reshapeEquiv_cons_one]
  funext a
  apply Fin.ext
  rw [Rect.emb_apply]
  match a with
  | 0 => show v + 1 * 0 = v; omega
  | 1 => show 0 + 1 * p.val = p.val; omega
  | 2 => show 0 + 1 * q.val = q.val; omega

theorem slotAt_emb (b : ℕ) (hb : b < 4) (off) (ho : off = ![b, 0, 0, 0]) (h) (r : Fin 512) (p : Fin 16) (q : Fin 128) :
    (slotAt off h).view.emb (ix3 r p q) = ix4 ⟨b, hb⟩ r p q := by
  subst ho
  have e : (slotAt ![b, 0, 0, 0] h).view.emb (ix3 r p q)
      = (Rect.unit (s := S4x512x16x128) ![b, 0, 0, 0] S1x512x16x128.size h).emb
          (Shape.reshapeEquiv squeezes_S1x512x16x128_S512x16x128.numel_eq (ix3 r p q)) := rfl
  rw [e, Shape.reshapeEquiv_cons_one]
  funext a
  apply Fin.ext
  rw [Rect.emb_apply]
  match a with
  | 0 => show b + 1 * 0 = b; omega
  | 1 => show 0 + 1 * r.val = r.val; omega
  | 2 => show 0 + 1 * p.val = p.val; omega
  | 3 => show 0 + 1 * q.val = q.val; omega

theorem outAt_emb (u : ℕ) (hu : u + 512 ≤ 16384) (off) (ho : off = ![u, 0, 0]) (h) (r : Fin 512) (p : Fin 16) (q : Fin 128) :
    (outAt off h).view.emb (ix3 r p q) = ix3 ⟨u + r.val, by omega⟩ p q := by
  subst ho
  funext a
  apply Fin.ext
  have e : (outAt ![u, 0, 0] h).view.emb (ix3 r p q)
      = (Rect.unit (s := S16384x16x128) ![u, 0, 0] S512x16x128.size h).emb (ix3 r p q) := rfl
  rw [e, Rect.emb_apply]
  match a with
  | 0 => show u + 1 * r.val = u + r.val; omega
  | 1 => show 0 + 1 * p.val = p.val; omega
  | 2 => show 0 + 1 * q.val = q.val; omega

/-! ## The values -/

section Values

variable (XI : S16384.Idx → BitVec 32) (XA : S65536x16x128.Idx → Elt F .f32)

/-- The id at place `n`. -/
def idAt (n : ℕ) : BitVec 32 := XI (ix1 (Fin.ofNat 16384 n))

/-- The row of the table that id `n` names. -/
def rowOf (n : ℕ) (p : Fin 16) (q : Fin 128) : Elt F .f32 := XA (ix3 (Fin.ofNat 65536 (idAt XI n).toNat) p q)

/-- What a slot of the ring holds once step `u`'s rows have landed. -/
def GB (u : ℕ) : S4x512x16x128.Idx → Elt F .f32 := fun y => rowOf XI XA (u * 512 + (y 1).val) (y 2) (y 3)
/-- What the output holds at the end. -/
def GO : S16384x16x128.Idx → Elt F .f32 := fun y => rowOf XI XA (y 0).val (y 1) (y 2)

/-- The copy of a table row into row `r` of slot `b` leaves there what `GB` says. -/
theorem row_written (u b r : ℕ) (hb : b < 4) (hr : r < 512) (off) (ho : off = ![b, r, 0, 0]) (h)
    (off') (ho' : off' = ![(idAt XI (u * 512 + r)).toNat, 0, 0]) (h') (fd : S4x512x16x128.Idx → Elt F .f32) :
    ∀ y ∈ rowSet b r,
      (rowAt off h).view.write (Elt F) fd ((tabAt off' h').view.read (Elt F) XA) Finset.univ y = GB XI XA u y := by
  intro y hy
  obtain ⟨e0, e1⟩ := mem_rowSet.mp hy
  have hv : (idAt XI (u * 512 + r)).toNat < 65536 := by
    have := h' 0; subst ho'
    have : (idAt XI (u * 512 + r)).toNat + 1 ≤ 65536 := this
    omega
  obtain ⟨p, q, rfl⟩ : ∃ (p : Fin 16) (q : Fin 128), y = ix4 ⟨b, hb⟩ ⟨r, hr⟩ p q := by
    refine ⟨y 2, y 3, funext fun a => ?_⟩
    match a with
    | 0 => exact Fin.ext e0
    | 1 => exact Fin.ext e1
    | 2 => rfl
    | 3 => rfl
  have e : (rowAt off h).view.write (Elt F) fd ((tabAt off' h').view.read (Elt F) XA) Finset.univ (ix4 ⟨b, hb⟩ ⟨r, hr⟩ p q)
      = XA ((tabAt off' h').view.emb (ix2 p q)) := by
    rw [← rowAt_emb b r hb hr off ho h]
    exact View.write_emb_of_mem (v := (rowAt off h).view) _ _ (Finset.mem_univ _)
  rw [e, tabAt_emb _ hv off' ho']
  show _ = XA (ix3 (Fin.ofNat 65536 (idAt XI (u * 512 + r)).toNat) p q)
  congr 2
  exact Fin.ext (Nat.mod_eq_of_lt hv).symm

/-- The copy of slot `b`, holding step `u`'s rows, into the step's output rows leaves there what `GO` says. -/
theorem block_written (u b : ℕ) (hb : b < 4) (hu : u * 512 + 512 ≤ 16384) (off) (ho : off = ![b, 0, 0, 0]) (h)
    (off') (ho' : off' = ![u * 512, 0, 0]) (h') (fd : S16384x16x128.Idx → Elt F .f32) :
    ∀ y ∈ outSet (u * 512) (u * 512 + 512),
      (outAt off' h').view.write (Elt F) fd ((slotAt off h).view.read (Elt F) (GB XI XA u)) Finset.univ y = GO XI XA y := by
  intro y hy
  obtain ⟨e0, e1⟩ := mem_outSet.mp hy
  obtain ⟨r, p, q, rfl⟩ : ∃ (r : Fin 512) (p : Fin 16) (q : Fin 128), y = ix3 ⟨u * 512 + r.val, lt_of_lt_of_le (Nat.add_lt_add_left r.isLt _) hu⟩ p q := by
    refine ⟨⟨(y 0).val - u * 512, by omega⟩, y 1, y 2, funext fun a => ?_⟩
    match a with
    | 0 => exact Fin.ext (show (y 0).val = u * 512 + ((y 0).val - u * 512) by omega)
    | 1 => rfl
    | 2 => rfl
  have e : (outAt off' h').view.write (Elt F) fd ((slotAt off h).view.read (Elt F) (GB XI XA u)) Finset.univ
        (ix3 ⟨u * 512 + r.val, by omega⟩ p q)
      = GB XI XA u ((slotAt off h).view.emb (ix3 r p q)) := by
    rw [← outAt_emb (u * 512) hu off' ho' h']
    exact View.write_emb_of_mem (v := (outAt off' h').view) _ _ (Finset.mem_univ _)
  rw [e, slotAt_emb b hb off ho]
  rfl

/-- Reading the id at place `n`. -/
theorem id_read (n : ℕ) (hn : n < 16384) (off) (ho : off = ![n]) (h) (x) :
    (idsM.access (Rect.unit (s := S16384) off S1.size h)).read (Elt F) XI x = idAt XI n := by
  subst ho
  show XI ((Rect.unit (s := S16384) ![n] S1.size h).emb x) = XI (ix1 (Fin.ofNat 16384 n))
  congr 1
  funext a
  apply Fin.ext
  rw [Rect.emb_apply]
  match a with
  | 0 =>
    have hx : (x 0).val < 1 := (x 0).isLt
    show n + 1 * (x 0).val = n % 16384
    rw [Nat.mod_eq_of_lt hn]; omega

end Values

/-! ## The amounts -/

/-- What one row's copy signals. -/
abbrev N : ℕ := sig.dmaCredit .tc (Kind.tc.table (.core .vmem)) cc0_scratch0.idx S16x128 .f32

theorem N_pos : 0 < N := by decide

theorem row_amount (off h) (sm : Sem sig) : (rowAt off h).view.dmaCredit = N := rfl
theorem slot_amount (off h) : (slotAt off h).view.dmaCredit = 512 * N :=
  (show sig.dmaCredit .tc (Kind.tc.table (.core .vmem)) cc0_scratch0.idx S512x16x128 .f32 = 512 * N by decide)
theorem out_amount (off h) : (outAt off h).view.dmaCredit = 512 * N :=
  (show sig.dmaCredit .tc (Kind.tc.table .hbm) main_v2.idx S512x16x128 .f32 = 512 * N by decide)

end Cert.Proof
-- ==== Proof.Copy.lean ====
module

public import proofs.«01_k».proof.Proof.Geometry
public import Idealize.ShloMosaic.Lib.Pipeline.KitQuiescent
public import Idealize.ShloMosaic.Lib.Batch
public import Idealize.ShloMosaic.Lib.Tactic

@[expose] public section

noncomputable section

namespace Cert.Proof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

/-- The ghost state: the pipeline's, beside the counters the kernel's own transfers use. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Core

variable (c : Dev nD)

/-- What a piece of a grid point's program does: from `P` it runs to `R`. -/
abbrev Runs (P : sProp 𝕄) (p : KProg F PUnit) (R : sProp 𝕄) : Prop :=
  P ⊢ wp frame (wpE (defs₀ (F := F)) 𝒱₀ (c : Thread nD τ) none) Set.univ p (fun _ => R)

omit [FloatOps F] in
theorem entails_of_eq {P Q : sProp 𝕄} (e : P = Q) : P ⊢ Q := e ▸ .rfl

variable {c} in
/-- One piece after another. -/
theorem Runs.seq {P R Q : sProp 𝕄} {p : KProg F PUnit} {k : PUnit → KProg F PUnit}
    (h : Runs c P p R) (hk : Runs c R (k ⟨⟩) Q) : Runs c P (p >>= k) Q := by
  unfold Runs
  rw [wp_bind]
  exact h.trans (wp_mono _ _ _ fun _ => hk)

variable {c} in
/-- What a piece does not touch stays. -/
theorem Runs.frame {P R S : sProp 𝕄} {p : KProg F PUnit} (h : Runs c P p R) :
    Runs c iprop(P ∗ S) p iprop(R ∗ S) :=
  (sep_mono_l h).trans (wp_frame_r _ _ _)

variable {c} in
/-- Weaken before and after. -/
theorem Runs.conseq {P P' R R' : sProp 𝕄} {p : KProg F PUnit} (h : Runs c P p R) (hP : P' ⊢ P) (hR : R ⊢ R') :
    Runs c P' p R' :=
  hP.trans (h.trans (wp_mono _ _ _ fun _ => hR))

/-- A guarded piece, both ways. -/
theorem Runs.whenD {g : Prop} [Decidable g] {P R Q : sProp 𝕄} {p : g → KProg F PUnit} {k : KProg F PUnit}
    (ht : ∀ h : g, Runs c P (p h) R) (hf : ¬ g → P ⊢ R) (hk : Runs c R k Q) : Runs c P (whenD g p k) Q := by
  unfold Cert.Proof.whenD
  by_cases h : g
  · rw [dif_pos h]; exact Runs.seq (ht h) hk
  · rw [dif_neg h]; exact (hf h).trans hk

/-! ## What is held -/

variable (XI : S16384.Idx → BitVec 32) (XA : S65536x16x128.Idx → Elt F .f32)

/-- The ids. -/
abbrev idsP : sProp 𝕄 := idsM.view.loc (c : Thread nD τ) ↦[Finset.univ]{fullShare} XI
/-- Some share of the table. -/
abbrev tabP : sProp 𝕄 := iprop(∃ q, tabM.view.loc (c : Thread nD τ) ↦[Finset.univ]{q} XA)
/-- Part of the ring, with what it holds. -/
abbrev bufP (S : Finset S4x512x16x128.Idx) (f : S4x512x16x128.Idx → Elt F .f32) : sProp 𝕄 :=
  bufM.view.loc (c : Thread nD τ) ↦[S]{fullShare} f
/-- Part of the output, with what it holds. -/
abbrev outP (S : Finset S16384x16x128.Idx) (f : S16384x16x128.Idx → Elt F .f32) : sProp 𝕄 :=
  outM.view.loc (c : Thread nD τ) ↦[S]{fullShare} f

theorem mod4_inb (b : ℕ) : ∀ a, (![b % 4] : Fin 1 → ℕ) a + S1.size a ≤ S4.size a := by
  intro a
  match a with
  | 0 => show b % 4 + 1 ≤ 4; omega

/-- The semaphore that counts slot `b`'s row copies. -/
abbrev rsem (b : ℕ) : SemLoc sig := .dma (semAt cc0_scratch1 ![b % 4] (mod4_inb b))
/-- The semaphore that counts slot `b`'s copy out. -/
abbrev wsem (b : ℕ) : SemLoc sig := .dma (semAt cc0_scratch2 ![b % 4] (mod4_inb b))

/-- What row copy `r` of step `u` delivers into slot `b`. -/
abbrev rowD (b u : ℕ) (r : Fin 512) : sProp 𝕄 := bufP c (rowSet b r.val) (GB XI XA u)

/-- Step `u`'s row copies into slot `b`, the first `r` of them started. -/
abbrev rowsB (b u r : ℕ) : sProp 𝕄 :=
  Transfers.Batch countersEmb (c : Thread nD τ) (rsem b) () N (rowD c XI XA b u) r 0

/-- The rows of slot `b` from `r` on. -/
def restSet (b r : ℕ) : Finset S4x512x16x128.Idx := Finset.univ.filter fun y => (y 0).val = b ∧ r ≤ (y 1).val

theorem mem_restSet {b r : ℕ} {y : S4x512x16x128.Idx} : y ∈ restSet b r ↔ (y 0).val = b ∧ r ≤ (y 1).val := by
  simp [restSet]

theorem restSet_zero (b : ℕ) : restSet b 0 = slotSet b := by
  ext y; rw [mem_restSet, mem_slotSet]; simp

theorem restSet_succ (b r : ℕ) : restSet b r = rowSet b r ∪ restSet b (r + 1) := by
  ext y; rw [Finset.mem_union, mem_restSet, mem_rowSet, mem_restSet]; omega

theorem disjoint_row_rest (b r : ℕ) : Disjoint (rowSet b r) (restSet b (r + 1)) := by
  rw [Finset.disjoint_left]; intro y; rw [mem_rowSet, mem_restSet]; omega

/-- The state of the copy loop into slot `b` for step `u`, the first `r` rows started. -/
abbrev copying (b u r : ℕ) : sProp 𝕄 :=
  iprop(idsP c XI ∗ tabP c XA ∗ (∃ f, bufP c (restSet b r) f) ∗ rowsB c XI XA b u r)

/-- Reading an id. -/
theorem wp_loadId {α : Type} {Q : α → sProp 𝕄} (n : ℕ) (hn : n < 16384) (off) (ho : off = ![n]) (hoff)
    (k : Elt F .i32 → KProg F α) :
    idsP (F := F) c XI ⊢ iprop((idsP c XI -∗ wp frame (wpE (defs₀ (F := F)) 𝒱₀ (c : Thread nD τ) none) Set.univ (k (idAt XI n)) Q)
      -∗ wp frame (wpE (defs₀ (F := F)) 𝒱₀ (c : Thread nD τ) none) Set.univ
        (smemLoad idsM (Rect.unit (s := S16384) off S1.size hoff) numel1_S1 rfl >>= k) Q) := by
  have h := wp_smemLoadElt (defs := defs₀ (F := F)) (U := UU nD τ) (Name := ℕ) (Lvl := ℕ) (Ix := Unit) (Γ := PendingWaitsCtx.empty) 𝒱₀ (c : Thread nD τ) none Set.univ
    (Q := Q) (m := idsM) (r := Rect.unit (s := S16384) off S1.size hoff) (hw := View.loads_smem_one rfl numel1_S1)
    (x := Shape.Idx.first ((show (Rect.unit (s := S16384) off S1.size hoff).shape.numel = 1 from numel1_S1).symm ▸ Nat.one_pos)) (k := k)
    (q := fullShare) (f := XI) (S := Finset.univ) (Finset.subset_univ _)
  rw [id_read (F := F) XI n hn off ho hoff] at h
  exact h

/-- One row copy starts. -/
theorem runs_copyRow (P : BitVec 32 → Prop) (dec : ∀ v, Decidable (P v))
    (hP : ∀ v, P v → ∀ a, rowOff v a + S1x16x128.size a ≤ S65536x16x128.size a)
    (u b r : ℕ) (hb : b < 4) (hr : r < 512) (hu : u * 512 + r < 16384) (hv : P (idAt XI (u * 512 + r)))
    (off) (ho : off = ![u * 512 + r]) (hoff) (osem) (hos : osem = ![b]) (hosem) (odst) (hod : odst = ![b, r, 0, 0]) (hodst) :
    Runs c (copying c XI XA b u r)
      (copyRow idsM tabM bufM cc0_scratch1 P dec hP off hoff osem hosem odst hodst)
      (copying c XI XA b u (r + 1)) := by
  obtain rfl : osem = ![b % 4] := by rw [hos, Nat.mod_eq_of_lt hb]
  have he (f₀) : bufP c (rowSet b r) ((rowAt odst hodst).view.write (Elt F) f₀
      ((tabAt (rowOff (idAt XI (u * 512 + r))) (hP _ hv)).view.read (Elt F) XA) Finset.univ) = rowD c XI XA b u ⟨r, hr⟩ :=
    pointsTo_congr (fun y hy => row_written XI XA u b r hb hr odst hod hodst _ rfl (hP _ hv) f₀ y hy)
  unfold Runs copyRow
  iintro ⟨Hi, ⟨%q, Ht⟩, ⟨%f, Hb⟩, HB⟩
  iapply (wp_loadId c XI (u * 512 + r) hu off ho hoff _) $$ Hi
  iintro Hi
  iapply (wp_assume 𝒱₀ (c : Thread nD τ) none Set.univ hv)
  ihave Hs := (pointsTo_share (PosShare.mem_left_op_right q)).1 $$ Ht
  icases Hs with ⟨Hl, Hr⟩
  ihave Hr' := (pointsTo_split_subset (Finset.subset_univ (tabAt (rowOff (idAt XI (u * 512 + r))) (hP _ hv)).view.set)).1 $$ Hr
  icases Hr' with ⟨Hr, -⟩
  ihave Hb' := (entails_of_eq (show bufP c (restSet b r) f = bufP c (rowSet b r ∪ restSet b (r + 1)) f by rw [← restSet_succ])).trans
    (pointsTo_union (disjoint_row_rest b r)).1 $$ Hb
  icases Hb' with ⟨Hd, Hrest⟩
  iapply (Transfers.wp_dmaBatch countersEmb 𝒱₀ (c : Thread nD τ) none (src := tabAt (rowOff (idAt XI (u * 512 + r))) (hP _ hv))
    (dst := rowAt odst hodst) (via := ReadAs.same) (sm := rsem b) (q := q.right) (fs := XA) (Sd := rowSet b r) (fd := f) (D := rowD c XI XA b u) (j := r) (u := 0)
    () N rfl (rowAt_set b r odst hod hodst).le hr (Nat.zero_le _) (by
      iintro ⟨H, -⟩
      iapply (entails_of_eq (he f))
      iexact H)) $$ [Hr Hd HB]
  · isplitl [Hr]; · iexact Hr
    isplitl [Hd] <;> iassumption
  iintro HB
  rw [wp_ret]
  imodintro
  isplitl [Hi]; · iexact Hi
  isplitl [Hl]; · iexists q.left; iexact Hl
  isplitl [Hrest]; · iexists f; iexact Hrest
  iexact HB

/-- Copies `j` to 63 of trip `t`. -/
theorem runs_copyAll (f : (j : ℕ) → j < 64 → KProg F PUnit) (I : ℕ → sProp 𝕄) (hf : ∀ j hj, Runs c (I j) (f j hj) (I (j + 1))) :
    ∀ (n j : ℕ) (h : j + n = 64), Runs c (I j) (copyAll f n j h) (I 64)
  | 0, j, h => by
    obtain rfl : j = 64 := by omega
    unfold Runs copyAll
    rw [show (pure ⟨⟩ : KProg F PUnit) = .ret ⟨⟩ from rfl, wp_ret]
    exact fupd_intro
  | n + 1, j, h => Runs.seq (hf j (by omega)) (runs_copyAll f I hf n (j + 1) (by omega))

/-- One trip of a copy loop. -/
theorem runs_trip (P : BitVec 32 → Prop) (dec : ∀ v, Decidable (P v))
    (hP : ∀ v, P v → ∀ a, rowOff v a + S1x16x128.size a ≤ S65536x16x128.size a)
    (w sl t : BitVec 32) (hw : w.toNat + 512 ≤ 16384) (hsl : sl.toNat < 4) (ht : t.toNat < 8)
    (u b k : ℕ) (hu : w.toNat = u * 512) (hb : sl.toNat = b) (hk : t.toNat = k)
    (hv : ∀ n, P (idAt XI n)) :
    Runs c (copying c XI XA b u (k * 64)) (trip idsM tabM bufM cc0_scratch1 P dec hP w sl t hw hsl ht)
      (copying c XI XA b u ((k + 1) * 64)) := by
  subst hb hk
  have h := runs_copyAll c (fun j hj => copyRow idsM tabM bufM cc0_scratch1 P dec hP (idOff w t j) (idOff_inb w t j hw ht hj)
    (semOff sl) (semOff_inb sl hsl) (dstOff sl t j) (dstOff_inb sl t j hsl ht hj))
    (fun j => copying c XI XA sl.toNat u (t.toNat * 64 + j))
    (fun j hj => runs_copyRow c XI XA P dec hP u sl.toNat (t.toNat * 64 + j) hsl (by omega) (by omega) (hv _) _
      (by rw [idOff_eq w t j hw ht hj, hu]) _ _ rfl _ _ (dstOff_eq sl t j ht hj) _) 64 0 rfl
  rw [show (t.toNat + 1) * 64 = t.toNat * 64 + 64 by omega]
  exact h

/-- The whole loop: from nothing started to all 512 rows started. -/
theorem runs_loop (l : Scf.Loop 32) (hok : l.OK) (htr : l.trips = 8) (body : Fin l.trips → Unit → KProg F Unit) (I : ℕ → sProp 𝕄)
    (hbody : ∀ t, Runs c (I t.val) (body t ()) (I (t.val + 1))) : Runs c (I 0) (Scf.Loop.for l hok () body) (I 8) := by
  unfold Runs
  have h := Scf.wp_for Idealize.ShloMosaic.frame (wpE (defs₀ (F := F)) 𝒱₀ (c : Thread nD τ) none) Set.univ l.lb l.ub l.st hok ()
    body (fun n _ => I n) (fun k _ => hbody k) (Q := fun _ => I 8)
  refine BIBase.Entails.trans ?_ h
  iintro H
  isplitl [H]; · iexact H
  iintro %acc H
  iapply (entails_of_eq (show I (Scf.trips l.lb l.ub l.st) = I 8 from congrArg I htr))
  iexact H

/-- The start of a step's row copies: the slot and its semaphore free before; after, all 512 under way. -/
theorem start_rows (b u : ℕ) :
    iprop((∃ f, bufP (F := F) c (slotSet b) f) ∗ semVal ((c : Thread nD τ), rsem b) 0 ∗ idsP c XI ∗ tabP c XA)
      ⊢ |={Set.univ}[Idealize.ShloMosaic.frame]=> copying c XI XA b u 0 := by
  iintro ⟨⟨%f, Hb⟩, Hs, Hi, Ht⟩
  imod (Transfers.batch_alloc' countersEmb (c : Thread nD τ) () N (rowD c XI XA b u) (sm := rsem b) (E := Set.univ)) $$ Hs with HB
  imodintro
  isplitl [Hi]; · iexact Hi
  isplitl [Ht]; · iexact Ht
  isplitl [Hb]
  · iexists f; rw [restSet_zero]; iexact Hb
  iexact HB

/-- `loop1` starts the row copies of step `u` into slot `b`. -/
theorem runs_loop1 (i : grid0.Coords) (h : k0_cond1 i = 1#1) (b u : ℕ) (hb : (slot1 i).toNat = b) (hu : (word1 i).toNat = u * 512)
    (hv : ∀ n, k0_chk1 i (idAt XI n)) :
    Runs c (copying c XI XA b u 0) (loop1 i h) (copying c XI XA b u 512) :=
  runs_loop c k0_t1_loop _ trips1 _ (fun n => copying c XI XA b u (n * 64)) fun t =>
    runs_trip c XI XA _ _ _ _ _ _ _ _ _ u b t.val hu hb (iv_eq _ (lt_of_lt_of_eq t.isLt trips1)) hv

/-- `loop2` starts the row copies of step `u` into slot `b`. -/
theorem runs_loop2 (i : grid0.Coords) (h : k0_cond3 i = 1#1) (b u : ℕ) (hb : (slot2 i).toNat = b) (hu : (word2 i).toNat = u * 512)
    (hv : ∀ n, k0_chk65 i (idAt XI n)) :
    Runs c (copying c XI XA b u 0) (loop2 i h) (copying c XI XA b u 512) :=
  runs_loop c k0_t2_loop _ trips2 _ (fun n => copying c XI XA b u (n * 64)) fun t =>
    runs_trip c XI XA _ _ _ _ _ _ _ _ _ u b t.val hu hb (iv_eq _ (lt_of_lt_of_eq t.isLt trips2)) hv

end Core

end Cert.Proof
-- ==== Proof.Ring.lean ====
module

public import proofs.«01_k».proof.Proof.Copy

@[expose] public section

noncomputable section

namespace Cert.Proof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Core

variable (c : Dev nD) (XI : S16384.Idx → BitVec 32) (XA : S65536x16x128.Idx → Elt F .f32)

/-! ## The states of a slot -/

/-- The core owes nothing. -/
abbrev oweP : sProp 𝕄 := iprop(∃ W, owes (c : Thread nD τ) 0 W)

/-- Slot `b` holds nothing under way. -/
abbrev freeP (b : ℕ) : sProp 𝕄 :=
  iprop((∃ f, bufP c (slotSet b) f) ∗ semVal ((c : Thread nD τ), rsem b) 0 ∗ semVal ((c : Thread nD τ), wsem b) 0)
/-- Step `u`'s rows are on their way into slot `b`. -/
abbrev readP (b u : ℕ) : sProp 𝕄 := iprop(rowsB c XI XA b u 512 ∗ semVal ((c : Thread nD τ), wsem b) 0)
/-- Slot `b`'s copy out to step `u`'s output rows is under way. -/
abbrev flyP (b u : ℕ) : sProp 𝕄 :=
  Transfers.Flight countersEmb (c : Thread nD τ) (wsem b) () (512 * N)
    iprop(outP c (outSet (u * 512) (u * 512 + 512)) (GO XI XA) ∗ bufP c (slotSet b) (GB XI XA u))
/-- The same, with the slot's other semaphore at rest. -/
abbrev writeP (b u : ℕ) : sProp 𝕄 := iprop(flyP c XI XA b u ∗ semVal ((c : Thread nD τ), rsem b) 0)
/-- The first `n` steps' output rows are as they should be. -/
abbrev doneP (n : ℕ) : sProp 𝕄 := outP c (outSet 0 (n * 512)) (GO XI XA)
/-- The output rows of step `n` and all later ones. -/
abbrev todoP (n : ℕ) : sProp 𝕄 := iprop(∃ f, outP (F := F) c (outSet (n * 512) 16384) f)

/-! ## Sets -/

theorem slot_rows (b : ℕ) : (Finset.univ : Finset (Fin 512)).biUnion (fun r => rowSet b r.val) = slotSet b := by
  ext y
  simp only [Finset.mem_biUnion, Finset.mem_univ, true_and, mem_rowSet, mem_slotSet]
  constructor
  · rintro ⟨r, h, -⟩; exact h
  · intro h; exact ⟨⟨(y 1).val, (y 1).isLt⟩, h, rfl⟩

theorem outSet_union {lo mid hi : ℕ} (h : lo ≤ mid) (h' : mid ≤ hi) : outSet lo mid ∪ outSet mid hi = outSet lo hi := by
  ext y; simp only [Finset.mem_union, mem_outSet]; omega

theorem outSet_disjoint (lo mid hi : ℕ) : Disjoint (outSet lo mid) (outSet mid hi) := by
  rw [Finset.disjoint_left]; intro y; simp only [mem_outSet]; omega

/-- A step's rows join the rows before it. -/
theorem done_succ (n : ℕ) :
    iprop(doneP c XI XA n ∗ outP c (outSet (n * 512) (n * 512 + 512)) (GO XI XA)) ⊢ doneP c XI XA (n + 1) := by
  refine (pointsTo_union (outSet_disjoint 0 (n * 512) (n * 512 + 512))).2.trans (entails_of_eq ?_)
  rw [outSet_union (Nat.zero_le _) (by omega), doneP, show (n + 1) * 512 = n * 512 + 512 by omega]

/-- A step's rows come off the rows to do. -/
theorem todo_succ (n : ℕ) (hn : n < 32) :
    todoP (F := F) c n ⊢ iprop((∃ f, outP c (outSet (n * 512) (n * 512 + 512)) f) ∗ todoP c (n + 1)) := by
  iintro ⟨%f, H⟩
  ihave H' := (entails_of_eq (show outP c (outSet (n * 512) 16384) f
      = outP c (outSet (n * 512) (n * 512 + 512) ∪ outSet (n * 512 + 512) 16384) f by
    rw [outSet_union (by omega) (by omega)])).trans (pointsTo_union (outSet_disjoint _ _ _)).1 $$ H
  icases H' with ⟨H1, H2⟩
  isplitl [H1]; · iexists f; iexact H1
  iexists f
  rw [show (n + 1) * 512 = n * 512 + 512 by omega]
  iexact H2

/-! ## The pieces -/

/-- The wait for a step's rows. -/
theorem runs_waitRows (b u : ℕ) (hb : b < 4) (os) (hos : os = ![b]) (hosb) (ob) (hob : ob = ![b, 0, 0, 0]) (hobb) :
    Runs c iprop(rowsB c XI XA b u 512 ∗ oweP c) (waitRows os hosb ob hobb)
      iprop(bufP c (slotSet b) (GB XI XA u) ∗ semVal ((c : Thread nD τ), rsem b) 0 ∗ oweP c) := by
  obtain rfl : os = ![b % 4] := by rw [hos, Nat.mod_eq_of_lt hb]
  have he : bigSep Finset.univ (rowD c XI XA b u) = bufP c (slotSet b) (GB XI XA u) := by
    rw [← slot_rows b]
    exact (pointsTo_biUnion _ _ fun r _ r' _ hne => by
      rw [Finset.disjoint_left]; intro y; rw [mem_rowSet, mem_rowSet]
      rintro ⟨_, h⟩ ⟨_, h'⟩; exact hne (Fin.ext (h.symm.trans h'))).symm
  unfold Runs waitRows
  iintro ⟨HB, ⟨%W, HO⟩⟩
  iapply (Transfers.wp_waitBatchAll countersEmb 𝒱₀ (c : Thread nD τ) none () (slot_amount ob hobb) N_pos (D := rowD c XI XA b u)
    (u := 0) (by rw [Nat.zero_add, Nat.mul_comm])) $$ [HB HO]
  · isplitl [HB] <;> iassumption
  iintro ⟨HD, Hs, HO⟩
  rw [wp_ret]
  imodintro
  isplitl [HD]; · iapply (entails_of_eq he); iexact HD
  isplitl [Hs]; · iexact Hs
  iexists _; iexact HO

/-- The start of a slot's copy out. -/
theorem runs_startWrite (b u : ℕ) (hb : b < 4) (hu : u < 32) (os) (hos : os = ![b]) (hosb) (ob) (hob : ob = ![b, 0, 0, 0]) (hobb)
    (oo) (hoo : oo = ![u * 512, 0, 0]) (hoob) :
    Runs c iprop(bufP c (slotSet b) (GB XI XA u) ∗ (∃ f, outP c (outSet (u * 512) (u * 512 + 512)) f)
        ∗ semVal ((c : Thread nD τ), wsem b) 0)
      (startWrite os hosb ob hobb oo hoob) (flyP c XI XA b u) := by
  obtain rfl : os = ![b % 4] := by rw [hos, Nat.mod_eq_of_lt hb]
  have hs := slotAt_set b ob hob hobb
  have he (f) : outP c (outSet (u * 512) (u * 512 + 512)) ((outAt oo hoob).view.write (Elt F) f
        ((slotAt ob hobb).view.read (Elt F) (GB XI XA u)) Finset.univ)
      = outP c (outSet (u * 512) (u * 512 + 512)) (GO XI XA) :=
    pointsTo_congr (fun y hy => block_written XI XA u b hb (by omega) ob hob hobb oo hoo hoob f y hy)
  have hb' : bufP c (slotAt ob hobb).view.set (GB XI XA u) = bufP c (slotSet b) (GB XI XA u) :=
    congrArg (fun S => bufP c S (GB XI XA u)) hs
  have hm (f) : iprop(outP c (outSet (u * 512) (u * 512 + 512)) ((outAt oo hoob).view.write (Elt F) f
        ((slotAt ob hobb).view.read (Elt F) (GB XI XA u)) Finset.univ) ∗ bufP c (slotAt ob hobb).view.set (GB XI XA u))
      ⊢ iprop(outP c (outSet (u * 512) (u * 512 + 512)) (GO XI XA) ∗ bufP c (slotSet b) (GB XI XA u)) := by
    rw [he f, hb']
  unfold Runs startWrite
  iintro ⟨HS, ⟨%f, HD⟩, Hw⟩
  iapply (Transfers.wp_dmaLocal countersEmb 𝒱₀ (c : Thread nD τ) none (src := slotAt ob hobb) (dst := outAt oo hoob) (via := ReadAs.same)
    (sm := wsem b) (q := fullShare) (fs := GB XI XA u) (Sd := outSet (u * 512) (u * 512 + 512)) (fd := f) () (512 * N) (out_amount oo hoob)
    (by have := N_pos; omega) (outAt_set (u * 512) oo hoo hoob).le) $$ [HS HD Hw]
  · isplitl [HS]; · iapply (entails_of_eq hb'.symm); iexact HS
    isplitl [HD] <;> iassumption
  iintro HF
  rw [wp_ret]
  imodintro
  iapply (Transfers.Flight_mono countersEmb (c : Thread nD τ) (hm f))
  iexact HF

/-- The wait for a slot's copy out. -/
theorem runs_waitWrite (b u : ℕ) (hb : b < 4) (os) (hos : os = ![b]) (hosb) (ob) (hobb) :
    Runs c iprop(writeP c XI XA b u ∗ oweP c) (waitWrite os hosb ob hobb)
      iprop(freeP c b ∗ outP c (outSet (u * 512) (u * 512 + 512)) (GO XI XA) ∗ oweP c) := by
  obtain rfl : os = ![b % 4] := by rw [hos, Nat.mod_eq_of_lt hb]
  unfold Runs waitWrite
  iintro ⟨⟨HF, Hr⟩, ⟨%W, HO⟩⟩
  iapply (Transfers.wp_waitLocal countersEmb 𝒱₀ (c : Thread nD τ) none () (out_amount _ _)) $$ [HF HO]
  · isplitl [HF] <;> iassumption
  iintro ⟨⟨Ho, Hb⟩, Hw, HO⟩
  rw [wp_ret]
  imodintro
  isplitl [Hb Hr Hw]
  · isplitl [Hb]; · iexists _; iexact Hb
    isplitl [Hr] <;> iassumption
  isplitl [Ho]; · iexact Ho
  iexists _; iexact HO

/-- A copy loop run from a free slot. -/
theorem runs_fill (b u : ℕ) {p : KProg F PUnit} (h : Runs c (copying c XI XA b u 0) p (copying c XI XA b u 512)) :
    Runs c iprop(freeP c b ∗ idsP c XI ∗ tabP c XA) p iprop(readP c XI XA b u ∗ idsP c XI ∗ tabP c XA) := by
  have h1 := (Runs.frame (S := semVal ((c : Thread nD τ), wsem b) 0) h)
  unfold Runs
  iintro ⟨⟨Hb, Hr, Hw⟩, Hi, Ht⟩
  iapply fupd_wp
  imod (start_rows c XI XA b u) $$ [Hb Hr Hi Ht] with HC
  · isplitl [Hb]; · iexact Hb
    isplitl [Hr]; · iexact Hr
    isplitl [Hi] <;> iassumption
  imodintro
  iapply (Runs.conseq h1 (P' := iprop(copying c XI XA b u 0 ∗ semVal ((c : Thread nD τ), wsem b) 0)) .rfl (by
    iintro ⟨⟨Hi, Ht, -, HB⟩, Hw⟩
    isplitl [HB Hw]
    · isplitl [HB] <;> iassumption
    isplitl [Hi] <;> iassumption))
  isplitl [HC] <;> iassumption

end Core

end Cert.Proof
-- ==== Proof.Point.lean ====
module

public import proofs.«01_k».proof.Proof.Ring

@[expose] public section

noncomputable section

namespace Cert.Proof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Core

variable (c : Dev nD) (XI : S16384.Idx → BitVec 32) (XA : S65536x16x128.Idx → Elt F .f32)

/-- Every id names a row of the table. -/
def IdsOK : Prop := ∀ n, (idAt XI n).toNat < 65536

theorem chk_row (h : IdsOK XI) (n : ℕ) : ∀ a, rowOff (idAt XI n) a + S1x16x128.size a ≤ S65536x16x128.size a := by
  have := h n
  intro a
  match a with
  | 0 => show (idAt XI n).toNat + 1 ≤ 65536; omega
  | 1 => show 0 + 16 ≤ 16; omega
  | 2 => show 0 + 128 ≤ 128; omega

/-! ## The ring between grid points

Before point `t`, step `t % 16` of its core: slot `t % 4` is step `t`'s, its rows already on their way unless the
core begins; the three slots before it hold the three previous steps' copies out, as far as the core made them. -/

/-- The slot of point `t` itself. -/
def ownP (t : ℕ) : sProp 𝕄 := if t % 16 = 0 then freeP (F := F) c (t % 4) else readP c XI XA (t % 4) t
/-- The slot of the `j`th step before. -/
def oldP (s j b u : ℕ) : sProp 𝕄 := if j ≤ s then writeP c XI XA b u else freeP (F := F) c b

theorem ownP_first {t : ℕ} (h : t % 16 = 0) : ownP c XI XA t = freeP c (t % 4) := if_pos h
theorem ownP_later {t : ℕ} (h : ¬ t % 16 = 0) : ownP c XI XA t = readP c XI XA (t % 4) t := if_neg h
theorem oldP_fly {s j b u : ℕ} (h : j ≤ s) : oldP c XI XA s j b u = writeP c XI XA b u := if_pos h
theorem oldP_free {s j b u : ℕ} (h : ¬ j ≤ s) : oldP c XI XA s j b u = freeP c b := if_neg h

/-- What is held before point `t`, the core's debts apart. -/
def ringP (t : ℕ) : sProp 𝕄 :=
  iprop(ownP c XI XA t ∗ oldP c XI XA (t % 16) 3 ((t + 1) % 4) (t - 3) ∗ oldP c XI XA (t % 16) 2 ((t + 2) % 4) (t - 2)
    ∗ oldP c XI XA (t % 16) 1 ((t + 3) % 4) (t - 1)
    ∗ doneP c XI XA (t - min (t % 16) 3) ∗ todoP c t ∗ idsP c XI ∗ tabP c XA)

/-- After a core's last waits, or between two steps: the ring before the next point. -/
theorem ring_next_mid (t : ℕ) (h : ¬ (t + 1) % 16 = 0) :
    iprop(ownP c XI XA (t + 1) ∗ writeP c XI XA (t % 4) t ∗ oldP c XI XA (t % 16) 2 ((t + 2) % 4) (t - 2)
      ∗ oldP c XI XA (t % 16) 1 ((t + 3) % 4) (t - 1)
      ∗ doneP c XI XA (t - min (t % 16) 2) ∗ todoP c (t + 1) ∗ idsP c XI ∗ tabP c XA) ⊢ ringP c XI XA (t + 1) := by
  have hs : (t + 1) % 16 = t % 16 + 1 := by omega
  have e1 : oldP c XI XA ((t + 1) % 16) 1 ((t + 1 + 3) % 4) (t + 1 - 1) = writeP c XI XA (t % 4) t := by
    rw [hs, oldP_fly c XI XA (by omega), show (t + 1 + 3) % 4 = t % 4 by omega, show t + 1 - 1 = t by omega]
  have e2 : oldP c XI XA ((t + 1) % 16) 2 ((t + 1 + 2) % 4) (t + 1 - 2) = oldP c XI XA (t % 16) 1 ((t + 3) % 4) (t - 1) := by
    rw [hs, show t + 1 + 2 = t + 3 by omega, show t + 1 - 2 = t - 1 by omega]
    simp only [oldP, show (2 ≤ t % 16 + 1) = (1 ≤ t % 16) from propext (by omega)]
  have e3 : oldP c XI XA ((t + 1) % 16) 3 ((t + 1 + 1) % 4) (t + 1 - 3) = oldP c XI XA (t % 16) 2 ((t + 2) % 4) (t - 2) := by
    rw [hs, show t + 1 + 1 = t + 2 by omega, show t + 1 - 3 = t - 2 by omega]
    simp only [oldP, show (3 ≤ t % 16 + 1) = (2 ≤ t % 16) from propext (by omega)]
  have e4 : t + 1 - min ((t + 1) % 16) 3 = t - min (t % 16) 2 := by omega
  unfold ringP
  rw [e1, e2, e3, e4]
  iintro ⟨H0, H3, H2, H1, Hr⟩
  isplitl [H0]; · iexact H0
  isplitl [H2]; · iexact H2
  isplitl [H1]; · iexact H1
  isplitl [H3]; · iexact H3
  iexact Hr

theorem ring_next_last (t : ℕ) (h : (t + 1) % 16 = 0) :
    iprop(freeP (F := F) c 0 ∗ freeP (F := F) c 1 ∗ freeP (F := F) c 2 ∗ freeP (F := F) c 3
      ∗ doneP c XI XA (t + 1) ∗ todoP c (t + 1) ∗ idsP c XI ∗ tabP c XA) ⊢ ringP c XI XA (t + 1) := by
  unfold ringP
  rw [ownP_first c XI XA h, h, oldP_free c XI XA (by omega), oldP_free c XI XA (by omega), oldP_free c XI XA (by omega),
    show (t + 1) % 4 = 0 by omega, show (t + 1 + 1) % 4 = 1 by omega, show (t + 1 + 2) % 4 = 2 by omega,
    show (t + 1 + 3) % 4 = 3 by omega, show t + 1 - min 0 3 = t + 1 by omega]

/-! ## One point -/

/-- Point `t` is step `t % 16` of core `t / 16`. -/
def At (i : grid0.Coords) (t : ℕ) : Prop := (i 0).val * 16 + (i 1).val = t

/-- The weakest precondition of a piece at this core. -/
abbrev Wp {α : Type} (p : KProg F α) (Q : α → sProp 𝕄) : sProp 𝕄 :=
  wp frame (wpE (defs₀ (F := F)) 𝒱₀ (c : Thread nD τ) none) Set.univ p Q

variable {c} in
/-- One piece, then the rest. -/
theorem Runs.andThen {α : Type} {P R : sProp 𝕄} {Q : α → sProp 𝕄} {p : KProg F PUnit} {k : PUnit → KProg F α}
    (h : Runs c P p R) (hk : R ⊢ Wp c (k ⟨⟩) Q) : P ⊢ Wp c (p >>= k) Q := by
  unfold Wp
  rw [wp_bind]
  exact h.trans (wp_mono _ _ _ fun _ => hk)

variable {c} in
/-- A guarded piece, then the rest. -/
theorem guarded {α : Type} {g : Prop} [Decidable g] {P R : sProp 𝕄} {Q : α → sProp 𝕄} {p : g → KProg F PUnit} {k : KProg F α}
    (ht : ∀ h : g, Runs c P (p h) R) (hf : ¬ g → P ⊢ R) (hk : R ⊢ Wp c k Q) : P ⊢ Wp c (whenD g p k) Q := by
  unfold whenD
  by_cases h : g
  · rw [dif_pos h]; exact Runs.andThen (ht h) hk
  · rw [dif_neg h]; exact (hf h).trans hk

variable {i : grid0.Coords} {t : ℕ}

theorem at_mod (ht : At i t) : (i 1).val = t % 16 := by have := lt0 i; have := lt1 i; unfold At at ht; omega
theorem at_lt (ht : At i t) : t < 32 := by have := lt0 i; have := lt1 i; unfold At at ht; omega

/-- The core's first step starts its own rows. -/
theorem phase1 (h : IdsOK XI) (ht : At i t) (h1 : k0_cond1 i = 1#1) :
    Runs c iprop(ownP c XI XA t ∗ idsP c XI ∗ tabP c XA) (loop1 i h1) iprop(readP c XI XA (t % 4) t ∗ idsP c XI ∗ tabP c XA) := by
  have h0 := (cond1_iff i).mp h1
  have hm := at_mod ht
  rw [ownP_first c XI XA (by omega)]
  refine runs_fill c XI XA _ _ (runs_loop1 c XI XA i h1 _ _ ?_ ?_ fun n _ => chk_row XI h n)
  · rw [slot1_eq]; omega
  · rw [word1_eq]; unfold At at ht; omega

/-- A step from the fourth on waits for the copy out of the slot it is to fill. -/
theorem phase2 (ht : At i t) (h2 : k0_cond2 i = 1#1) :
    Runs c iprop(oldP c XI XA (t % 16) 3 ((t + 1) % 4) (t - 3) ∗ doneP c XI XA (t - min (t % 16) 3) ∗ oweP c)
      (waitWrite (k0_off257 i) (k0_off257_inb i h2) (k0_off258 i) (k0_off258_inb i h2))
      iprop(freeP c ((t + 1) % 4) ∗ doneP c XI XA (t - min (t % 16) 2) ∗ oweP c) := by
  have h0 := (cond2_iff i).mp h2
  have hm := at_mod ht
  rw [oldP_fly c XI XA (show 3 ≤ t % 16 by omega), show t - min (t % 16) 3 = t - 3 by omega,
    show t - min (t % 16) 2 = (t - 3) + 1 by omega]
  refine Runs.conseq (Runs.frame (S := doneP c XI XA (t - 3)) (runs_waitWrite c XI XA ((t + 1) % 4) (t - 3) (by omega) _
    (by rw [k0_off257_eq, hm]; congr 1; omega) _ _ _)) ?_ ?_
  · iintro ⟨Hw, Hd, Ho⟩
    isplitr [Hd]
    · isplitl [Hw] <;> iassumption
    iexact Hd
  · iintro ⟨⟨Hf, Ho, Hw⟩, Hd⟩
    isplitl [Hf]; · iexact Hf
    isplitl [Hd Ho]
    · iapply (done_succ c XI XA (t - 3)); isplitl [Hd] <;> iassumption
    iexact Hw

/-- A step but a core's last starts the next step's rows. -/
theorem phase3 (h : IdsOK XI) (ht : At i t) (h3 : k0_cond3 i = 1#1) :
    Runs c iprop(freeP c ((t + 1) % 4) ∗ idsP c XI ∗ tabP c XA) (loop2 i h3) iprop(ownP c XI XA (t + 1) ∗ idsP c XI ∗ tabP c XA) := by
  have h0 := (cond3_iff i).mp h3
  have hm := at_mod ht
  rw [ownP_later c XI XA (by omega)]
  refine runs_fill c XI XA _ _ (runs_loop2 c XI XA i h3 _ _ ?_ ?_ fun n _ => chk_row XI h n)
  · rw [slot2_eq]; omega
  · rw [word2_eq]; unfold At at ht; omega

/-- Every step waits for its rows, -/
theorem phase4 (ht : At i t) :
    Runs c iprop(readP c XI XA (t % 4) t ∗ oweP c)
      (waitRows (k0_off515 i) (k0_off515_inb i) (k0_off516 i) (k0_off516_inb i))
      iprop((bufP c (slotSet (t % 4)) (GB XI XA t) ∗ semVal ((c : Thread nD τ), rsem (t % 4)) 0 ∗ oweP c)
        ∗ semVal ((c : Thread nD τ), wsem (t % 4)) 0) := by
  have hm := at_mod ht
  refine Runs.conseq (Runs.frame (S := semVal ((c : Thread nD τ), wsem (t % 4)) 0) (runs_waitRows c XI XA (t % 4) t (by omega) _
    (by rw [k0_off515_eq, hm]; congr 1; omega) _ _ (by rw [k0_off516_eq, hm]; congr 1; omega) _)) ?_ .rfl
  iintro ⟨⟨Hr, Hw⟩, Ho⟩
  isplitr [Hw]
  · isplitl [Hr] <;> iassumption
  iexact Hw

/-- and starts its copy out. -/
theorem phase5 (ht : At i t) :
    Runs c iprop(((bufP c (slotSet (t % 4)) (GB XI XA t) ∗ semVal ((c : Thread nD τ), rsem (t % 4)) 0 ∗ oweP c)
        ∗ semVal ((c : Thread nD τ), wsem (t % 4)) 0) ∗ todoP c t)
      (startWrite (k0_off515 i) (k0_off515_inb i) (k0_off516 i) (k0_off516_inb i) (k0_off517 i) (k0_off517_inb i))
      iprop(writeP c XI XA (t % 4) t ∗ todoP c (t + 1) ∗ oweP c) := by
  have hm := at_mod ht
  have hl := at_lt ht
  refine Runs.conseq (Runs.frame (S := iprop(semVal ((c : Thread nD τ), rsem (t % 4)) 0 ∗ todoP c (t + 1) ∗ oweP c))
    (runs_startWrite c XI XA (t % 4) t (by omega) hl _
    (by rw [k0_off515_eq, hm]; congr 1; omega) _ _ (by rw [k0_off516_eq, hm]; congr 1; omega) _ _
    (by rw [k0_off517_eq]; congr 1; unfold At at ht; omega) _)) ?_ ?_
  · iintro ⟨⟨⟨Hb, Hr, Ho⟩, Hw⟩, Ht⟩
    ihave Ht' := (todo_succ c t hl) $$ Ht
    icases Ht' with ⟨H1, H2⟩
    isplitl [Hb H1 Hw]
    · isplitl [Hb]; · iexact Hb
      isplitl [H1] <;> iassumption
    isplitl [Hr]; · iexact Hr
    isplitl [H2] <;> iassumption
  · iintro ⟨Hf, Hr, Ht, Ho⟩
    isplitl [Hf Hr]
    · isplitl [Hf] <;> iassumption
    isplitl [Ht] <;> iassumption

/-- What a point's steady part leaves. -/
abbrev leftP (t : ℕ) : sProp 𝕄 :=
  iprop(ownP c XI XA (t + 1) ∗ writeP c XI XA (t % 4) t ∗ oldP c XI XA (t % 16) 2 ((t + 2) % 4) (t - 2)
      ∗ oldP c XI XA (t % 16) 1 ((t + 3) % 4) (t - 1)
      ∗ doneP c XI XA (t - min (t % 16) 2) ∗ todoP c (t + 1) ∗ idsP c XI ∗ tabP c XA)

theorem runs_steady (h : IdsOK XI) (ht : At i t) {α : Type} (r : α) {Q : α → sProp 𝕄}
    (hQ : iprop(leftP c XI XA t ∗ oweP c) ⊢ Q r) :
    iprop(ringP c XI XA t ∗ oweP c) ⊢ Wp c (steady i r) Q := by
  have hm := at_mod ht
  unfold steady ringP
  refine guarded (R := iprop((readP c XI XA (t % 4) t ∗ idsP c XI ∗ tabP c XA)
      ∗ (oldP c XI XA (t % 16) 3 ((t + 1) % 4) (t - 3) ∗ oldP c XI XA (t % 16) 2 ((t + 2) % 4) (t - 2)
    ∗ oldP c XI XA (t % 16) 1 ((t + 3) % 4) (t - 1)
    ∗ doneP c XI XA (t - min (t % 16) 3) ∗ todoP c t ∗ oweP c))) (fun h1 => ?_) (fun h1 => ?_) ?_
  · refine Runs.conseq (Runs.frame (phase1 c XI XA h ht h1)) ?_ .rfl
    iintro ⟨⟨H0, H3, H2, H1, Hd, Ht, Hi, Hb⟩, Ho⟩
    isplitl [H0 Hi Hb]
    · isplitl [H0]; · iexact H0
      isplitl [Hi] <;> iassumption
    isplitl [H3]; · iexact H3
    isplitl [H2]; · iexact H2
    isplitl [H1]; · iexact H1
    isplitl [Hd]; · iexact Hd
    isplitl [Ht] <;> iassumption
  · rw [cond1_iff] at h1
    rw [ownP_later c XI XA (by omega)]
    iintro ⟨⟨H0, H3, H2, H1, Hd, Ht, Hi, Hb⟩, Ho⟩
    isplitl [H0 Hi Hb]
    · isplitl [H0]; · iexact H0
      isplitl [Hi] <;> iassumption
    isplitl [H3]; · iexact H3
    isplitl [H2]; · iexact H2
    isplitl [H1]; · iexact H1
    isplitl [Hd]; · iexact Hd
    isplitl [Ht] <;> iassumption
  refine guarded (R := iprop((freeP c ((t + 1) % 4) ∗ doneP c XI XA (t - min (t % 16) 2) ∗ oweP c)
      ∗ (readP c XI XA (t % 4) t ∗ idsP c XI ∗ tabP c XA ∗ oldP c XI XA (t % 16) 2 ((t + 2) % 4) (t - 2)
    ∗ oldP c XI XA (t % 16) 1 ((t + 3) % 4) (t - 1) ∗ todoP c t))) (fun h2 => ?_) (fun h2 => ?_) ?_
  · refine Runs.conseq (Runs.frame (phase2 c XI XA ht h2)) ?_ .rfl
    iintro ⟨⟨H0, Hi, Hb⟩, H3, H2, H1, Hd, Ht, Ho⟩
    isplitl [H3 Hd Ho]
    · isplitl [H3]; · iexact H3
      isplitl [Hd] <;> iassumption
    isplitl [H0]; · iexact H0
    isplitl [Hi]; · iexact Hi
    isplitl [Hb]; · iexact Hb
    isplitl [H2]; · iexact H2
    isplitl [H1] <;> iassumption
  · rw [cond2_iff] at h2
    rw [oldP_free c XI XA (show ¬ 3 ≤ t % 16 by omega), show t - min (t % 16) 3 = t - min (t % 16) 2 by omega]
    iintro ⟨⟨H0, Hi, Hb⟩, H3, H2, H1, Hd, Ht, Ho⟩
    isplitl [H3 Hd Ho]
    · isplitl [H3]; · iexact H3
      isplitl [Hd] <;> iassumption
    isplitl [H0]; · iexact H0
    isplitl [Hi]; · iexact Hi
    isplitl [Hb]; · iexact Hb
    isplitl [H2]; · iexact H2
    isplitl [H1] <;> iassumption
  refine guarded (R := iprop((ownP c XI XA (t + 1) ∗ idsP c XI ∗ tabP c XA)
      ∗ (readP c XI XA (t % 4) t ∗ oldP c XI XA (t % 16) 2 ((t + 2) % 4) (t - 2)
    ∗ oldP c XI XA (t % 16) 1 ((t + 3) % 4) (t - 1) ∗ doneP c XI XA (t - min (t % 16) 2) ∗ todoP c t ∗ oweP c))) (fun h3 => ?_) (fun h3 => ?_) ?_
  · refine Runs.conseq (Runs.frame (phase3 c XI XA h ht h3)) ?_ .rfl
    iintro ⟨⟨Hf, Hd, Ho⟩, H0, Hi, Hb, H2, H1, Ht⟩
    isplitl [Hf Hi Hb]
    · isplitl [Hf]; · iexact Hf
      isplitl [Hi] <;> iassumption
    isplitl [H0]; · iexact H0
    isplitl [H2]; · iexact H2
    isplitl [H1]; · iexact H1
    isplitl [Hd]; · iexact Hd
    isplitl [Ht] <;> iassumption
  · rw [cond3_iff] at h3
    rw [ownP_first c XI XA (show (t + 1) % 16 = 0 by have := lt1 i; omega)]
    iintro ⟨⟨Hf, Hd, Ho⟩, H0, Hi, Hb, H2, H1, Ht⟩
    isplitl [Hf Hi Hb]
    · isplitl [Hf]; · iexact Hf
      isplitl [Hi] <;> iassumption
    isplitl [H0]; · iexact H0
    isplitl [H2]; · iexact H2
    isplitl [H1]; · iexact H1
    isplitl [Hd]; · iexact Hd
    isplitl [Ht] <;> iassumption
  refine Runs.andThen (R := iprop(((bufP c (slotSet (t % 4)) (GB XI XA t) ∗ semVal ((c : Thread nD τ), rsem (t % 4)) 0 ∗ oweP c)
        ∗ semVal ((c : Thread nD τ), wsem (t % 4)) 0) ∗ (ownP c XI XA (t + 1) ∗ idsP c XI ∗ tabP c XA
      ∗ oldP c XI XA (t % 16) 2 ((t + 2) % 4) (t - 2)
    ∗ oldP c XI XA (t % 16) 1 ((t + 3) % 4) (t - 1) ∗ doneP c XI XA (t - min (t % 16) 2) ∗ todoP c t))) ?_ ?_
  · refine Runs.conseq (Runs.frame (phase4 c XI XA ht)) ?_ .rfl
    iintro ⟨⟨Hn, Hi, Hb⟩, H0, H2, H1, Hd, Ht, Ho⟩
    isplitl [H0 Ho]
    · isplitl [H0] <;> iassumption
    isplitl [Hn]; · iexact Hn
    isplitl [Hi]; · iexact Hi
    isplitl [Hb]; · iexact Hb
    isplitl [H2]; · iexact H2
    isplitl [H1]; · iexact H1
    isplitl [Hd] <;> iassumption
  refine Runs.andThen (R := iprop((writeP c XI XA (t % 4) t ∗ todoP c (t + 1) ∗ oweP c)
      ∗ (ownP c XI XA (t + 1) ∗ idsP c XI ∗ tabP c XA ∗ oldP c XI XA (t % 16) 2 ((t + 2) % 4) (t - 2)
    ∗ oldP c XI XA (t % 16) 1 ((t + 3) % 4) (t - 1) ∗ doneP c XI XA (t - min (t % 16) 2)))) ?_ ?_
  · refine Runs.conseq (Runs.frame (phase5 c XI XA ht)) ?_ .rfl
    iintro ⟨H, Hn, Hi, Hb, H2, H1, Hd, Ht⟩
    isplitl [H Ht]
    · isplitl [H] <;> iassumption
    isplitl [Hn]; · iexact Hn
    isplitl [Hi]; · iexact Hi
    isplitl [Hb]; · iexact Hb
    isplitl [H2]; · iexact H2
    isplitl [H1] <;> iassumption
  unfold Wp
  rw [show (pure r : KProg F α) = .ret r from rfl, wp_ret]
  iintro ⟨⟨Hw, Ht, Ho⟩, Hn, Hi, Hb, H2, H1, Hd⟩
  imodintro
  iapply hQ
  isplitr [Ho]
  · isplitl [Hn]; · iexact Hn
    isplitl [Hw]; · iexact Hw
    isplitl [H2]; · iexact H2
    isplitl [H1]; · iexact H1
    isplitl [Hd]; · iexact Hd
    isplitl [Ht]; · iexact Ht
    isplitl [Hi] <;> iassumption
  iexact Ho

/-- A core's last waits. -/
theorem runs_drain (ht : At i t) (b : BitVec 1) (hb : b = 1#1 ↔ (i 1).val = 15) :
    Runs c iprop(leftP c XI XA t ∗ oweP c) (drain b) iprop(ringP c XI XA (t + 1) ∗ oweP c) := by
  have hm := at_mod ht
  unfold drain
  refine Runs.whenD c (R := iprop(ringP c XI XA (t + 1) ∗ oweP c)) (fun h1 => ?_) (fun h1 => ?_) ?_
  · have h15 : t % 16 = 15 := by rw [← hm]; exact hb.mp h1
    unfold leftP
    rw [ownP_first c XI XA (show (t + 1) % 16 = 0 by omega), oldP_fly c XI XA (show 2 ≤ t % 16 by omega),
      oldP_fly c XI XA (show 1 ≤ t % 16 by omega), show (t + 1) % 4 = 0 by omega, show (t + 2) % 4 = 1 by omega,
      show (t + 3) % 4 = 2 by omega, show t % 4 = 3 by omega, show t - min (t % 16) 2 = t - 2 by omega]
    refine Runs.seq (R := iprop((freeP c 1 ∗ outP c (outSet ((t - 2) * 512) ((t - 2) * 512 + 512)) (GO XI XA) ∗ oweP c)
      ∗ (freeP c 0 ∗ writeP c XI XA 3 t ∗ writeP c XI XA 2 (t - 1) ∗ doneP c XI XA (t - 2) ∗ todoP c (t + 1) ∗ idsP c XI ∗ tabP c XA))) ?_ ?_
    · refine Runs.conseq (Runs.frame (runs_waitWrite c XI XA 1 (t - 2) (by omega) _ rfl _ _ _)) ?_ .rfl
      iintro ⟨⟨H0, H3, H1, H2, Hr⟩, Ho⟩
      isplitl [H1 Ho]
      · isplitl [H1] <;> iassumption
      isplitl [H0]; · iexact H0
      isplitl [H3]; · iexact H3
      isplitl [H2] <;> iassumption
    refine Runs.seq (R := iprop((freeP c 2 ∗ outP c (outSet ((t - 1) * 512) ((t - 1) * 512 + 512)) (GO XI XA) ∗ oweP c)
      ∗ (freeP c 0 ∗ freeP c 1 ∗ writeP c XI XA 3 t ∗ doneP c XI XA (t - 1) ∗ todoP c (t + 1) ∗ idsP c XI ∗ tabP c XA))) ?_ ?_
    · refine Runs.conseq (Runs.frame (runs_waitWrite c XI XA 2 (t - 1) (by omega) _ rfl _ _ _)) ?_ .rfl
      iintro ⟨⟨H1, Hn, Ho⟩, H0, H3, H2, Hd, Hr⟩
      isplitl [H2 Ho]
      · isplitl [H2] <;> iassumption
      isplitl [H0]; · iexact H0
      isplitl [H1]; · iexact H1
      isplitl [H3]; · iexact H3
      isplitl [Hd Hn]
      · iapply ((done_succ c XI XA (t - 2)).trans (entails_of_eq (by rw [show t - 2 + 1 = t - 1 by omega])))
        isplitl [Hd] <;> iassumption
      iexact Hr
    refine Runs.conseq (Runs.frame (S := iprop(freeP c 0 ∗ freeP c 1 ∗ freeP c 2 ∗ doneP c XI XA t ∗ todoP c (t + 1) ∗ idsP c XI ∗ tabP c XA))
      (runs_waitWrite c XI XA 3 t (by omega) _ rfl _ _ _)) ?_ ?_
    · iintro ⟨⟨H2, Hn, Ho⟩, H0, H1, H3, Hd, Hr⟩
      isplitl [H3 Ho]
      · isplitl [H3] <;> iassumption
      isplitl [H0]; · iexact H0
      isplitl [H1]; · iexact H1
      isplitl [H2]; · iexact H2
      isplitl [Hd Hn]
      · iapply ((done_succ c XI XA (t - 1)).trans (entails_of_eq (by rw [show t - 1 + 1 = t by omega])))
        isplitl [Hd] <;> iassumption
      iexact Hr
    · iintro ⟨⟨H3, Hn, Ho⟩, H0, H1, H2, Hd, Hr⟩
      isplitr [Ho]
      · iapply (ring_next_last c XI XA t (by omega))
        isplitl [H0]; · iexact H0
        isplitl [H1]; · iexact H1
        isplitl [H2]; · iexact H2
        isplitl [H3]; · iexact H3
        isplitl [Hd Hn]
        · iapply (done_succ c XI XA t)
          isplitl [Hd] <;> iassumption
        iexact Hr
      iexact Ho
  · rw [hb, hm] at h1
    exact sep_mono_l (ring_next_mid c XI XA t (by omega))
  · unfold Runs
    rw [show (pure ⟨⟩ : KProg F PUnit) = .ret ⟨⟩ from rfl, wp_ret]
    exact fupd_intro

/-- ONE POINT: from the ring before it to the ring before the next. -/
theorem runs_step (h : IdsOK XI) (ht : At i t) :
    Runs c iprop(ringP c XI XA t ∗ oweP c) (step i) iprop(ringP c XI XA (t + 1) ∗ oweP c) := by
  unfold Runs step
  rw [wp_bind]
  exact runs_steady c XI XA h ht _ (runs_drain c XI XA ht _ (last_iff i))

end Core

end Cert.Proof
-- ==== Proof.Ends.lean ====
module

public import proofs.«01_k».proof.Proof.Point
public import proofs.«01_k».proof.Proof.Gen.Kernel.Launch
public import Idealize.ShloMosaic.Lib.Pipeline.Regions

/-! The two ends of the grid: the ring before the first point is made from the ring's buffer, the eight semaphores, the
ids, the table and the output; after the last point these come back, the output holding the gathered rows. -/

@[expose] public section

noncomputable section

namespace Cert.Proof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Core

variable (c : Dev nD) (XI : S16384.Idx → BitVec 32) (XA : S65536x16x128.Idx → Elt F .f32)

/-! ## The ring's buffer is its four slots -/

theorem slots_univ : (Finset.univ : Finset (Fin 4)).biUnion (fun b => slotSet b.val) = Finset.univ := by
  ext y
  simp only [Finset.mem_biUnion, Finset.mem_univ, true_and, mem_slotSet, iff_true]
  exact ⟨⟨(y 0).val, (y 0).isLt⟩, rfl⟩

theorem slots_disjoint : ∀ b ∈ (Finset.univ : Finset (Fin 4)), ∀ b' ∈ (Finset.univ : Finset (Fin 4)), b ≠ b' →
    Disjoint (slotSet b.val) (slotSet b'.val) := by
  intro b _ b' _ hne
  rw [Finset.disjoint_left]; intro y; rw [mem_slotSet, mem_slotSet]
  exact fun h h' => hne (Fin.ext (h.symm.trans h'))

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem slots_split (f : S4x512x16x128.Idx → Elt F .f32) :
    bufP c Finset.univ f ⊢ iprop(bufP c (slotSet 0) f ∗ bufP c (slotSet 1) f ∗ bufP c (slotSet 2) f ∗ bufP c (slotSet 3) f) := by
  have h : bufP c Finset.univ f = bigSep Finset.univ fun b : Fin 4 => bufP c (slotSet b.val) f := by
    rw [← slots_univ]; exact pointsTo_biUnion _ _ slots_disjoint
  rw [h, four]
  exact .rfl

theorem slots_join (f : Fin 4 → S4x512x16x128.Idx → Elt F .f32) :
    iprop(bufP c (slotSet 0) (f 0) ∗ bufP c (slotSet 1) (f 1) ∗ bufP c (slotSet 2) (f 2) ∗ bufP c (slotSet 3) (f 3))
      ⊢ iprop(∃ g, bufP c Finset.univ g) := by
  have h := pointsTo_biUnion_join (Ix := Unit) (Name := ℕ) (U := UU nD τ) (Lvl := ℕ) (ℓ := bufM.view.loc (c : Thread nD τ)) (q := fullShare)
    (Finset.univ : Finset (Fin 4)) (fun b => slotSet b.val) f (f 0) slots_disjoint
  rw [four, slots_univ] at h
  refine h.trans ?_
  iintro ⟨%g, -, H⟩
  iexists g
  iexact H

/-! ## The ends -/

/-- The eight semaphores at zero. -/
abbrev semsP : sProp 𝕄 :=
  iprop((semVal ((c : Thread nD τ), rsem 0) 0 ∗ semVal ((c : Thread nD τ), rsem 1) 0
      ∗ semVal ((c : Thread nD τ), rsem 2) 0 ∗ semVal ((c : Thread nD τ), rsem 3) 0)
    ∗ semVal ((c : Thread nD τ), wsem 0) 0 ∗ semVal ((c : Thread nD τ), wsem 1) 0
      ∗ semVal ((c : Thread nD τ), wsem 2) 0 ∗ semVal ((c : Thread nD τ), wsem 3) 0)

/-- Before the first point. -/
theorem ring_start :
    iprop((∃ f, bufP (F := F) c Finset.univ f) ∗ semsP (F := F) c ∗ (∃ f, outP (F := F) c Finset.univ f) ∗ idsP c XI ∗ tabP c XA)
      ⊢ ringP c XI XA 0 := by
  have e0 : outSet 0 0 = ∅ := by ext y; simp [mem_outSet]
  have e1 : outSet 0 16384 = Finset.univ := by
    ext y; simp only [mem_outSet, Finset.mem_univ, iff_true]; exact ⟨Nat.zero_le _, (y 0).isLt⟩
  unfold ringP todoP doneP
  rw [ownP_first c XI XA (by omega), oldP_free c XI XA (by omega), oldP_free c XI XA (by omega), oldP_free c XI XA (by omega)]
  simp only [Nat.zero_mod, Nat.zero_mul, Nat.zero_sub, Nat.zero_add, e0, e1, pointsTo_empty, Nat.reduceMod]
  iintro ⟨⟨%f, Hb⟩, ⟨⟨R0, R1, R2, R3⟩, W0, W1, W2, W3⟩, Ho, Hi, Ht⟩
  ihave Hs := (slots_split c f) $$ Hb
  icases Hs with ⟨B0, B1, B2, B3⟩
  isplitl [B0 R0 W0]
  · isplitl [B0]; · iexists f; iexact B0
    isplitl [R0] <;> iassumption
  isplitl [B1 R1 W1]
  · isplitl [B1]; · iexists f; iexact B1
    isplitl [R1] <;> iassumption
  isplitl [B2 R2 W2]
  · isplitl [B2]; · iexists f; iexact B2
    isplitl [R2] <;> iassumption
  isplitl [B3 R3 W3]
  · isplitl [B3]; · iexists f; iexact B3
    isplitl [R3] <;> iassumption
  rw [show outP c ∅ (GO XI XA) = (BI.emp : sProp 𝕄) from pointsTo_empty]
  isplitr; · iempintro
  isplitl [Ho]; · iexact Ho
  isplitl [Hi] <;> iassumption

/-- After the last. -/
theorem ring_end :
    ringP c XI XA 32 ⊢ iprop((∃ f, bufP (F := F) c Finset.univ f) ∗ semsP (F := F) c ∗ outP c Finset.univ (GO XI XA)) := by
  have e1 : outSet 0 16384 = Finset.univ := by
    ext y; simp only [mem_outSet, Finset.mem_univ, iff_true]; exact ⟨Nat.zero_le _, (y 0).isLt⟩
  unfold ringP doneP
  rw [ownP_first c XI XA (by omega), oldP_free c XI XA (by omega), oldP_free c XI XA (by omega), oldP_free c XI XA (by omega)]
  simp only [Nat.reduceMod, Nat.reduceMul, Nat.reduceSub, Nat.reduceAdd, Nat.zero_min, e1]
  iintro ⟨⟨⟨%f0, B0⟩, R0, W0⟩, ⟨⟨%f1, B1⟩, R1, W1⟩, ⟨⟨%f2, B2⟩, R2, W2⟩, ⟨⟨%f3, B3⟩, R3, W3⟩, Ho, -, -, -⟩
  isplitl [B0 B1 B2 B3]
  · iapply (slots_join c ![f0, f1, f2, f3])
    isplitl [B0]; · iexact B0
    isplitl [B1]; · iexact B1
    isplitl [B2]; · iexact B2
    iexact B3
  isplitr [Ho]
  · isplitl [R0 R1 R2 R3]
    · isplitl [R0]; · iexact R0
      isplitl [R1]; · iexact R1
      isplitl [R2] <;> iassumption
    isplitl [W0]; · iexact W0
    isplitl [W1]; · iexact W1
    isplitl [W2] <;> iassumption
  iexact Ho

end Core

/-! ## The grid's points -/

theorem at_coords : ∀ t : Fin 32, ∀ h : t.val < grid0.N,
    (grid0.coords ⟨t.val, h⟩ 0).val * 16 + (grid0.coords ⟨t.val, h⟩ 1).val = t.val := by decide

theorem at_point (t : Fin grid0.N) : At (grid0.coords t) t.val :=
  at_coords ⟨t.val, lt_of_lt_of_eq t.isLt N_0⟩ t.isLt

end Cert.Proof

end
-- ==== Proof.Launch.lean ====
module

public import proofs.«01_k».proof.Proof.Ends

/-! The kernel's run: two host reshapes, the gather region, a last host reshape. -/

@[expose] public section

noncomputable section

namespace Cert.Proof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The arrays the region works on -/

/-- The ids in one row, and the table with each row as sixteen by 128. -/
def idsOf (c : Dev nD) : S16384.Idx → BitVec 32 :=
  shapeCast S16384 (m ((c : Thread nD τ).loc main_arg0)) shapeCasts_S8x2048_S16384
def tabOf (c : Dev nD) : S65536x16x128.Idx → Elt F .f32 :=
  shapeCast S65536x16x128 (m ((c : Thread nD τ).loc main_arg1)) shapeCasts_S65536x64x32_S65536x16x128
/-- The result: the gathered rows in the result's shape. -/
def resOf (c : Dev nD) : S8x2048x64x32.Idx → Elt F .f32 :=
  shapeCast S8x2048x64x32 (GO (idsOf m c) (tabOf m c)) shapeCasts_S16384x16x128_S8x2048x64x32

/-- Core `c`'s buffers at launch, when the region is entered, and when it is left. -/
abbrev V₀ (c : Dev nD) : Valuation τ sig (Elt F) := fun b => m (c, b)
abbrev V₁ (c : Dev nD) : Valuation τ sig (Elt F) := StableHlo.after hostOps0 (V₀ m c)
def V₂ (c : Dev nD) : Valuation τ sig (Elt F) :=
  Function.update (V₁ m c) (Proc.devRef .tc main_v2) (GO (idsOf m c) (tabOf m c))

theorem V₁_v0 (c : Dev nD) : V₁ m c (Proc.devRef .tc main_v0) = idsOf m c := by
  show StableHlo.after [_, _] _ _ = _
  rw [StableHlo.after_cons, StableHlo.after_cons, StableHlo.after_nil, StableHlo.reshape_result_ne (h := (by decide : main_v0 ≠ main_v1)),
    StableHlo.reshape_result]
  rfl
theorem V₁_v1 (c : Dev nD) : V₁ m c (Proc.devRef .tc main_v1) = tabOf m c := by
  show StableHlo.after [_, _] _ _ = _
  rw [StableHlo.after_cons, StableHlo.after_cons, StableHlo.after_nil, StableHlo.reshape_result,
    StableHlo.reshape_result_ne (h := (by decide : main_arg1 ≠ main_v0))]
  rfl
theorem V₁_arg0 (c : Dev nD) : V₁ m c (Proc.devRef .tc main_arg0) = m ((c : Thread nD τ).loc main_arg0) := by
  show StableHlo.after [_, _] _ _ = _
  rw [StableHlo.after_cons, StableHlo.after_cons, StableHlo.after_nil, StableHlo.reshape_result_ne (h := (by decide : main_arg0 ≠ main_v1)),
    StableHlo.reshape_result_ne (h := (by decide : main_arg0 ≠ main_v0))]
theorem V₁_arg1 (c : Dev nD) : V₁ m c (Proc.devRef .tc main_arg1) = m ((c : Thread nD τ).loc main_arg1) := by
  show StableHlo.after [_, _] _ _ = _
  rw [StableHlo.after_cons, StableHlo.after_cons, StableHlo.after_nil, StableHlo.reshape_result_ne (h := (by decide : main_arg1 ≠ main_v1)),
    StableHlo.reshape_result_ne (h := (by decide : main_arg1 ≠ main_v0))]
theorem V₃_v3 (c : Dev nD) : StableHlo.after hostOps1 (V₂ m c) (Proc.devRef .tc main_v3) = resOf m c := by
  show StableHlo.after [_] _ _ = _
  rw [StableHlo.after_cons, StableHlo.after_nil, StableHlo.reshape_result]
  show (fun i => shapeCast _ (V₂ m c (Proc.devRef .tc main_v2)) _ i) = _
  rw [V₂, Function.update_self]
  rfl

/-! ## The buffers the host operations run within -/

abbrev bufs0 : Finset (DevRef τ sig) :=
  {Proc.devRef .tc main_arg0, Proc.devRef .tc main_arg1, Proc.devRef .tc main_v0, Proc.devRef .tc main_v1,
    Proc.devRef .tc main_v2, Proc.devRef .tc main_v3}
abbrev bufs1 : Finset (DevRef τ sig) := {Proc.devRef .tc main_v2, Proc.devRef .tc main_v3}

omit [FloatOps F] in
theorem held0 (c : Dev nD) (W : Valuation τ sig (Elt F)) : (StableHlo.held (c : Thread nD τ) bufs0 W : sProp 𝕄)
    = iprop((((c : Thread nD τ).loc main_arg0) ↦{fullShare} W (Proc.devRef .tc main_arg0))
      ∗ (((c : Thread nD τ).loc main_arg1) ↦{fullShare} W (Proc.devRef .tc main_arg1))
      ∗ (((c : Thread nD τ).loc main_v0) ↦{fullShare} W (Proc.devRef .tc main_v0))
      ∗ (((c : Thread nD τ).loc main_v1) ↦{fullShare} W (Proc.devRef .tc main_v1))
      ∗ (((c : Thread nD τ).loc main_v2) ↦{fullShare} W (Proc.devRef .tc main_v2))
      ∗ (((c : Thread nD τ).loc main_v3) ↦{fullShare} W (Proc.devRef .tc main_v3))) := by
  unfold StableHlo.held
  rw [bigSep_eq_bigSepL_of_eq [Proc.devRef .tc main_arg0, Proc.devRef .tc main_arg1, Proc.devRef .tc main_v0,
    Proc.devRef .tc main_v1, Proc.devRef .tc main_v2, Proc.devRef .tc main_v3] (by decide) (by decide)]
  rfl

omit [FloatOps F] in
theorem held1 (c : Dev nD) (W : Valuation τ sig (Elt F)) : (StableHlo.held (c : Thread nD τ) bufs1 W : sProp 𝕄)
    = iprop((((c : Thread nD τ).loc main_v2) ↦{fullShare} W (Proc.devRef .tc main_v2))
      ∗ (((c : Thread nD τ).loc main_v3) ↦{fullShare} W (Proc.devRef .tc main_v3))) := by
  unfold StableHlo.held
  rw [bigSep_eq_bigSepL_of_eq [Proc.devRef .tc main_v2, Proc.devRef .tc main_v3] (by decide) (by decide)]
  rfl

theorem refs_unscoped : (StableHlo.tcRefs τ sig).filter (fun b => ¬ b.isScoped) = bufs0 := by decide

omit [FloatOps F] in
/-- The launch's unscoped buffers are those six. -/
theorem unscopedBufs_held (c : Dev nD) (W : Valuation τ sig (Elt F)) :
    (unscopedBufs c (fun b => W b) : sProp 𝕄) = StableHlo.held (c : Thread nD τ) bufs0 W := by
  rw [← refs_unscoped]
  unfold unscopedBufs StableHlo.held StableHlo.tcRefs
  rw [Finset.filter_map, bigSep_map]
  rfl

theorem ops0_sub : ∀ op ∈ (hostOps0 : List (HloOp τ sig (Elt F))), op.bufs ⊆ bufs0 := by
  intro op h
  simp only [List.mem_cons, List.mem_nil_iff, or_false] at h
  rcases h with rfl | rfl <;> rw [StableHlo.reshape_bufs] <;> decide
theorem ops1_sub : ∀ op ∈ (hostOps1 : List (HloOp τ sig (Elt F))), op.bufs ⊆ bufs1 := by
  intro op h
  simp only [List.mem_cons, List.mem_nil_iff, or_false] at h
  rw [h, StableHlo.reshape_bufs]

/-! ## The region's proof data -/

/-- The prefetched table's contents: the ids. -/
def adm (_ : Fin 1) : (pcfg0 (F := F)).Adm := ⟨fun k => V₁ m 0 (Proc.devRef .tc (pre0.ref k)), trivial⟩

/-- No window: the ring is the invariant. -/
def dats (p : Fin 1) (c : Dev nD) : Dat τ (Elt F) Unit ℕ (UU nD τ) ℕ (Pipeline.pin (pcfgs (F := F)) (adm m) p) c where
  A w := w.elim0
  after w _ := w.elim0
  Φ t := ringP c (idsOf m c) (tabOf m c) t.val
  q _ := fullShare
  owed _ := 0

theorem dats_Φ (p : Fin 1) (c : Dev nD) (t) : (dats m p c).Φ t = ringP c (idsOf m c) (tabOf m c) t.val := by
  dsimp only [dats]

theorem noWin (Φ : Fin 0 → sProp 𝕄) : bigSep (Finset.univ : Finset (Fin 0)) Φ = BI.emp := by
  rw [show (Finset.univ : Finset (Fin 0)) = ∅ from rfl, BI.bigSep_empty]

theorem dats_castSucc (p : Fin 1) (c : Dev nD) (t : Fin (Pipeline.pin (pcfgs (F := F)) (adm m) p).N) :
    (dats m p c).Φ t.castSucc = ringP c (idsOf m c) (tabOf m c) t.val := by
  dsimp only [dats]
  exact Pipeline.Dat.Φ_castSucc (fun n _ => ringP c (idsOf m c) (tabOf m c) n) t
theorem dats_succ (p : Fin 1) (c : Dev nD) (t : Fin (Pipeline.pin (pcfgs (F := F)) (adm m) p).N) :
    (dats m p c).Φ t.succ = ringP c (idsOf m c) (tabOf m c) (t.val + 1) := by
  dsimp only [dats]
  rw [Fin.val_succ]

/-- The core's debts, none, at a point. -/
theorem owes_in (p : Fin 1) (c : Dev nD) (t) : oweP c ⊢ ((dats m p c).owesAt () t : sProp 𝕄) := by
  unfold Dat.owesAt Pipeline.owesWithin
  iintro ⟨%W, HO⟩; iexists W; isplitr; · ipureintro; exact fun _ _ => Or.inl trivial
  iexact HO
theorem owes_out (p : Fin 1) (c : Dev nD) (t) : ((dats m p c).owesAt () t : sProp 𝕄) ⊢ oweP c := by
  unfold Dat.owesAt Pipeline.owesWithin
  iintro ⟨%W, -, HO⟩; iexists W; iexact HO

/-- The body's label at a point runs the point's program. -/
theorem prog_eq (t : Fin grid0.N) : (defs₀ (F := F)) .tc (cfg0 (adm m 0)).body ((cfg0 (adm m 0)).bodyArgs t ((cfg0 (adm m 0)).slots t))
    = step (grid0.coords t) := body_eq (grid0.coords t)

set_option backward.isDefEq.respectTransparency.types false in
/-- Every point's body keeps the ring. -/
theorem body_obligation (c : Dev nD) (h : IdsOK (idsOf m c)) :
    BodyObligation (dats m 0 c) (defs₀ (F := F)) 𝒱₀ () Set.univ := fun t => by
  have hs := runs_step c (idsOf m c) (tabOf m c) h (at_point t)
  unfold Runs at hs
  rw [noWin, dats_castSucc, dats_succ]
  sl_rw [prog_eq m t]
  refine BIBase.Entails.trans ?_ (BIBase.Entails.trans hs (wp_mono _ _ _ fun _ => ?_))
  · iintro ⟨HR, HO, -⟩
    isplitl [HR]; · iexact HR
    iapply (owes_out m 0 c _); iexact HO
  · iintro ⟨HR, HO⟩
    isplitl [HR]; · iexact HR
    isplitl [HO]; · iapply (owes_in m 0 c _); iexact HO
    rw [noWin]
    iempintro

/-! ## The launch -/

/-- The kernel's own semaphores. -/
abbrev osem : Fin 8 → SemLoc sig := ![rsem 0, rsem 1, rsem 2, rsem 3, wsem 0, wsem 1, wsem 2, wsem 3]

theorem ownSemFacts : Pipeline.OwnSemFacts spec0 osem := by decide

omit [FloatOps F] in
theorem ownSems_eq (c : Dev nD) :
    (Pipeline.ownSems0 (Ix := Unit) (Name := ℕ) (U := UU nD τ) (Lvl := ℕ) (Val := Elt F) (τ := τ) osem c : sProp 𝕄)
      = iprop(semVal ((c : Thread nD τ), rsem 0) 0 ∗ semVal ((c : Thread nD τ), rsem 1) 0
        ∗ semVal ((c : Thread nD τ), rsem 2) 0 ∗ semVal ((c : Thread nD τ), rsem 3) 0
        ∗ semVal ((c : Thread nD τ), wsem 0) 0 ∗ semVal ((c : Thread nD τ), wsem 1) 0
        ∗ semVal ((c : Thread nD τ), wsem 2) 0 ∗ semVal ((c : Thread nD τ), wsem 3) 0) :=
  Pipeline.ownSems0_eq_of_list c osem [0, 1, 2, 3, 4, 5, 6, 7] (by decide) (by decide)

omit [FloatOps F] in
theorem sems_in (c : Dev nD) :
    (Pipeline.ownSems0 (Ix := Unit) (Name := ℕ) (U := UU nD τ) (Lvl := ℕ) (Val := Elt F) (τ := τ) osem c : sProp 𝕄) ⊢ semsP c := by
  rw [ownSems_eq]
  iintro ⟨R0, R1, R2, R3, W⟩
  isplitl [R0 R1 R2 R3]
  · isplitl [R0]; · iexact R0
    isplitl [R1]; · iexact R1
    isplitl [R2] <;> iassumption
  iexact W

omit [FloatOps F] in
theorem sems_out (c : Dev nD) :
    semsP c ⊢ (Pipeline.ownSems0 (Ix := Unit) (Name := ℕ) (U := UU nD τ) (Lvl := ℕ) (Val := Elt F) (τ := τ) osem c : sProp 𝕄) := by
  rw [ownSems_eq]
  iintro ⟨⟨R0, R1, R2, R3⟩, W⟩
  isplitl [R0]; · iexact R0
  isplitl [R1]; · iexact R1
  isplitl [R2]; · iexact R2
  isplitl [R3]; · iexact R3
  iexact W

/-- The one table held whole. -/
theorem pref_eq (c : Dev nD) (v : pre0.Contents (Elt F)) :
    (Pipeline.prefHeld (Ix := Unit) (Name := ℕ) (U := UU nD τ) (Lvl := ℕ) pre0 c (fun _ => fullShare) v : sProp 𝕄)
      = (((c : Thread nD τ).loc main_v0) ↦{fullShare} (show Buf (Elt F) ((c : Thread nD τ).loc main_v0) from v 0)) := by
  unfold Pipeline.prefHeld
  rw [show (Finset.univ : Finset (Fin 1)) = {0} from by decide, bigSep_singleton]
  rfl

def u₀ : UU nD τ := (initOf (Pipeline.cells (Pipeline.pin (pcfgs (F := F)) (adm m)) (cellOf_inj (adm m)))
  (Pipeline.launchToks (Pipeline.pin (pcfgs (F := F)) (adm m)) (cellOf_inj (adm m))), 1)

abbrev L : GSem nD τ sig → Finset Unit := fun _ => ∅
abbrev lv : GSem nD τ sig → Unit → ℕ := fun _ _ => 0

/-- The arguments, as launched. -/
abbrev argsP (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

/-- The two reshapes before the region, and the one after it. -/
def seg0 : Pipeline.HostSeg (Name := ℕ) (U := UU nD τ) (pcfgs (F := F)) defs₀ 𝒱₀ L lv :=
  Pipeline.HostSeg.ofOps _ _ _ _ _ bufs0 hostOps0
    ops0_sub
    (by intro _ h; (repeat (cases h with | head => rfl | tail _ h => ?_)); exact nomatch h) (V₀ m) fun c => oweP c
def seg1 : Pipeline.HostSeg (Name := ℕ) (U := UU nD τ) (pcfgs (F := F)) defs₀ 𝒱₀ L lv :=
  Pipeline.HostSeg.ofOps _ _ _ _ _ bufs1 hostOps1
    ops1_sub
    (by intro _ h; (repeat (cases h with | head => rfl | tail _ h => ?_)); exact nomatch h) (V₂ m) fun c => iprop(argsP m c ∗ oweP c)

/-- What the region leaves beside the debts. -/
abbrev Tₙ (c : Dev nD) : sProp 𝕄 :=
  iprop(argsP m c ∗ (((c : Thread nD τ).loc main_v3) ↦{fullShare} resOf m c))

theorem pref_adm (c : Dev nD) : (show Buf (Elt F) ((c : Thread nD τ).loc main_v0) from (adm m 0).1 0) = idsOf m c := by
  obtain rfl : c = 0 := Subsingleton.elim _ _
  exact V₁_v0 m 0

set_option backward.isDefEq.respectTransparency.types false in
/-- THE REGION. -/
def reg0 (h : ∀ c, IdsOK (idsOf m c)) : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := Fin 8
  osem := osem
  ho := ownSemFacts
  hbody c := (body_obligation m c (h c)).loose
  hwaits := Pipeline.hwaits_of_owed_zero _ _ _ _ L lv 0 fun _ _ => rfl
  pre c := iprop(StableHlo.held (c : Thread nD τ) bufs0 (V₁ m c) ∗ oweP c)
  post c := iprop(StableHlo.held (c : Thread nD τ) bufs1 (V₂ m c) ∗ argsP m c ∗ oweP c)
  X c := iprop(semsP c ∗ (∃ f, outP c Finset.univ f) ∗ tabP c (tabOf m c))
  Y c := outP c Finset.univ (GO (idsOf m c) (tabOf m c))
  Z c := iprop(argsP m c ∗ (((c : Thread nD τ).loc main_v3) ↦{fullShare} V₁ m c (Proc.devRef .tc main_v3)))
  hentry c := by
    rw [held0, V₁_arg0, V₁_arg1, V₁_v0, V₁_v1, show Pipeline.prefHeld (pcfgs (F := F) 0).pre c (fun _ => fullShare) (adm m 0).1
      = _ from pref_eq c _, pref_adm]
    iintro ⟨⟨⟨A0, A1, H0, H1, H2, H3⟩, HO⟩, Hos, -⟩
    imodintro
    isplitr; · unfold Pipeline.Dat.arrays; rw [noWin]; iempintro
    isplitl [H0]; · iexact H0
    isplitl [HO]; · iapply (owes_in m 0 c _); iexact HO
    isplitl [Hos H1 H2]
    · isplitl [Hos]; · iapply (sems_in c); iexact Hos
      isplitl [H2]; · iexists _; iexact H2
      iexists fullShare; iexact H1
    isplitl [A0 A1]
    · isplitl [A0] <;> iassumption
    iexact H3
  hin c := by
    rw [dats_Φ, show Pipeline.prefHeld (pcfgs (F := F) 0).pre c (fun _ => fullShare) (adm m 0).1
      = _ from pref_eq c _, pref_adm,
      show Pipeline.scopedRest (Pipeline.pin (pcfgs (F := F)) (adm m) 0).spec c = _ from scopedRest0_eq c]
    refine BIBase.Entails.trans ?_ (ring_start c (idsOf m c) (tabOf m c))
    iintro ⟨⟨HS, HO, HT⟩, HI, HB⟩
    isplitl [HB]; · iexact HB
    isplitl [HS]; · iexact HS
    isplitl [HO]; · iexact HO
    isplitl [HI]; · iexact HI
    iexact HT
  hout c := by
    rw [dats_Φ, show (Fin.last (Pipeline.pin (pcfgs (F := F)) (adm m) 0).N).val = 32 from N_0,
      show Pipeline.scopedRest (Pipeline.pin (pcfgs (F := F)) (adm m) 0).spec c = _ from scopedRest0_eq c]
    refine BIBase.Entails.trans (ring_end c (idsOf m c) (tabOf m c)) ?_
    iintro ⟨HB, HS, HO⟩
    isplitl [HO]; · iexact HO
    isplitl [HS]; · iapply (sems_out c); iexact HS
    iexact HB
  hexit c := by
    rw [held1, V₂, Function.update_self, Function.update_of_ne (StableHlo.devRef_ne_of_ne (by decide))]
    iintro ⟨-, HO, HY, ⟨HA, H3⟩⟩
    imodintro
    isplitl [HY H3]
    · isplitl [HY]; · iexact HY
      iexact H3
    isplitl [HA]; · iexact HA
    iapply (owes_out m 0 c _); iexact HO

/-- @main as the list of the three. -/
abbrev segs (h : ∀ c, IdsOK (idsOf m c)) : List (Pipeline.Seg (pcfgs (F := F)) (adm m) (dats m) () defs₀ 𝒱₀ L lv) :=
  [.host (seg0 m), .region (reg0 m h), .host (seg1 m)]

/-- What a final state holds. -/
def QC (r : PUnit.{1} × MemSt nD τ sig (Elt F)) : Prop :=
  ∀ c : Dev nD, r.2.mem ((c : Thread nD τ).loc main_v3) = resOf m c
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- The kernel's run, when every id names a row of the table: it terminates without a fault, the result holds the rows
    the ids name, the arguments are as they were and every semaphore is at zero. -/
theorem run_main (h : ∀ c, IdsOK (idsOf m c)) :
    θ_run defs (onTc (τ := τ) (main (F := F))) ⟨m, fun _ => 0, ρ⟩ (fun r => QC m r ∧ r.2.sem = fun _ => 0) :=
  Pipeline.θ_run_regions_kit_sems (pcfgs (F := F)) (adm m) (dats m) () (cellOf_inj (adm m)) EP defs₀ 𝒱₀ L lv m ρ main (segs m h)
    (fun c Q => by rw [main_segs (adm m) (dats m) () 𝒱₀ L lv (seg0 m) (seg1 m) (reg0 m h) rfl rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) bufs0 (V₀ m c) ∗ oweP c)) (Tₙ := Tₙ m)
    (hch := ⟨fun _ => .rfl, fun _ => .rfl, fun _ => .rfl, fun c => by
      show iprop(StableHlo.held (c : Thread nD τ) bufs1 (StableHlo.after hostOps1 (V₂ m c)) ∗ argsP m c ∗ oweP c) ⊢ iprop(Tₙ m c ∗ oweP c)
      rw [held1, V₃_v3]
      iintro ⟨⟨-, H3⟩, HA, HO⟩
      isplitr [HO]
      · isplitl [HA]; · iexact HA
        iexact H3
      iexact HO⟩)
    (hinit := by
      refine Pipeline.initEach L lv fun c => ?_
      rw [show unscopedBufs c (fun b => m ((c : Thread nD τ).loc b)) = StableHlo.held (c : Thread nD τ) bufs0 (V₀ m c) from unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v3) = resOf m c
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tₙ]
      iintro ⟨⟨⟨H0, H1⟩, H3⟩, HSI⟩
      icombine HSI H0 gives %h0
      icombine HSI H1 gives %h1
      icombine HSI H3 gives %h3
      imodintro
      isplitr; · ipureintro; exact ⟨Buf.eq_of_forall_mem_univ h3, Buf.eq_of_forall_mem_univ h0, Buf.eq_of_forall_mem_univ h1⟩
      iexact HSI)
    (hQ := fun _ h hz => ⟨h, funext fun g => hz g (.inr (by revert g; decide))⟩)

end Cert.Proof

end
-- ==== Proof.Reference.lean ====
module

public import proofs.«01_k».proof.Proof.Gen.ReferenceIdeal
public import Idealize.ShloMosaic.Lib.StableHlo.Run
public import Idealize.ShloMosaic.Adequacy
public import Idealize.ShloMosaic.Init
public import Idealize.ShloMosaic.Lib.Quiescent

/-! The reference's run: a straight line of host operations. -/

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order. -/
abbrev line : List (HloOp τ sig (Elt F)) :=
  [ TRef.nullary (.of main_call0_c : TRef sig ⟨S_, .i32⟩) (constantI S_ 32 0#32),
    TRef.unary (.of main_call0_c : TRef sig ⟨S_, .i32⟩) (.of main_call0_v0 : TRef sig ⟨S8x2048, .i32⟩) (broadcastInDim S8x2048 ![] bcast_S_S8x2048),
    TRef.binary (.of main_arg0 : TRef sig ⟨S8x2048, .i32⟩) (.of main_call0_v0 : TRef sig ⟨S8x2048, .i32⟩) (.of main_call0_v1 : TRef sig ⟨S8x2048, .i1⟩) (cmpi .slt),
    TRef.nullary (.of main_call0_c_0 : TRef sig ⟨S_, .i32⟩) (constantI S_ 32 65536#32),
    TRef.unary (.of main_call0_c_0 : TRef sig ⟨S_, .i32⟩) (.of main_call0_v2 : TRef sig ⟨S8x2048, .i32⟩) (broadcastInDim S8x2048 ![] bcast_S_S8x2048),
    TRef.binary (.of main_arg0 : TRef sig ⟨S8x2048, .i32⟩) (.of main_call0_v2 : TRef sig ⟨S8x2048, .i32⟩) (.of main_call0_v3 : TRef sig ⟨S8x2048, .i32⟩) addi,
    TRef.ternary (.of main_call0_v1 : TRef sig ⟨S8x2048, .i1⟩) (.of main_call0_v3 : TRef sig ⟨S8x2048, .i32⟩) (.of main_arg0 : TRef sig ⟨S8x2048, .i32⟩) (.of main_call0_v4 : TRef sig ⟨S8x2048, .i32⟩) select,
    TRef.unary (.of main_call0_v4 : TRef sig ⟨S8x2048, .i32⟩) (.of main_call0_v5 : TRef sig ⟨S8x2048x1, .i32⟩) (broadcastInDim S8x2048x1 ![0, 1] bcast_S8x2048_S8x2048x1_0_1),
    TRef.nullary (.of main_call0_c_1 : TRef sig ⟨S1, .i32⟩) (constantI S1 32 65535#32),
    TRef.nullary (.of main_call0_c_2 : TRef sig ⟨S_, .i32⟩) (constantI S_ 32 0#32),
    TRef.unary (.of main_call0_c_2 : TRef sig ⟨S_, .i32⟩) (.of main_call0_v6 : TRef sig ⟨S8x2048x1, .i32⟩) (broadcastInDim S8x2048x1 ![] bcast_S_S8x2048x1),
    TRef.binary (.of main_call0_v5 : TRef sig ⟨S8x2048x1, .i32⟩) (.of main_call0_v6 : TRef sig ⟨S8x2048x1, .i32⟩) (.of main_call0_v7 : TRef sig ⟨S8x2048x1, .i1⟩) (cmpi .sge),
    TRef.unary (.of main_call0_c_1 : TRef sig ⟨S1, .i32⟩) (.of main_call0_v8 : TRef sig ⟨S1x1x1, .i32⟩) (broadcastInDim S1x1x1 ![2] bcast_S1_S1x1x1_2),
    TRef.unary (.of main_call0_v8 : TRef sig ⟨S1x1x1, .i32⟩) (.of main_call0_v9 : TRef sig ⟨S8x2048x1, .i32⟩) (broadcastInDim S8x2048x1 ![0, 1, 2] bcast_S1x1x1_S8x2048x1_0_1_2),
    TRef.binary (.of main_call0_v5 : TRef sig ⟨S8x2048x1, .i32⟩) (.of main_call0_v9 : TRef sig ⟨S8x2048x1, .i32⟩) (.of main_call0_v10 : TRef sig ⟨S8x2048x1, .i1⟩) (cmpi .sle),
    TRef.binary (.of main_call0_v7 : TRef sig ⟨S8x2048x1, .i1⟩) (.of main_call0_v10 : TRef sig ⟨S8x2048x1, .i1⟩) (.of main_call0_v11 : TRef sig ⟨S8x2048x1, .i1⟩) andi,
    TRef.nullary (.of main_call0_c_3 : TRef sig ⟨S_, .i1⟩) (constantI S_ 1 1#1),
    TRef.binary (.of main_call0_v11 : TRef sig ⟨S8x2048x1, .i1⟩) (.of main_call0_c_3 : TRef sig ⟨S_, .i1⟩) (.of main_call0_v12 : TRef sig ⟨S8x2048, .i1⟩) (fun x v => Host.reduce IntOp.andi x v reducesTo_S8x2048x1_S8x2048_d2 h_S_),
    TRef.binary (.of main_arg1 : TRef sig ⟨S65536x64x32, .f32⟩) (.of main_call0_v5 : TRef sig ⟨S8x2048x1, .i32⟩) (.of main_call0_v13 : TRef sig ⟨S8x2048x64x32, .f32⟩) (fun x i => Host.gather gather_S65536x64x32_S8x2048x1_S8x2048x64x32_23_0_n_n_0_2_16432 x i),
    TRef.unary (.of main_call0_v12 : TRef sig ⟨S8x2048, .i1⟩) (.of main_call0_v14 : TRef sig ⟨S8x2048x64x32, .i1⟩) (broadcastInDim S8x2048x64x32 ![0, 1] bcast_S8x2048_S8x2048x64x32_0_1),
    TRef.nullary (.of main_call0_cst : TRef sig ⟨S_, .f32⟩) (constant S_ .f32 0x7FC00000#32),
    TRef.unary (.of main_call0_cst : TRef sig ⟨S_, .f32⟩) (.of main_call0_v15 : TRef sig ⟨S8x2048x64x32, .f32⟩) (broadcastInDim S8x2048x64x32 ![] bcast_S_S8x2048x64x32),
    TRef.ternary (.of main_call0_v14 : TRef sig ⟨S8x2048x64x32, .i1⟩) (.of main_call0_v13 : TRef sig ⟨S8x2048x64x32, .f32⟩) (.of main_call0_v15 : TRef sig ⟨S8x2048x64x32, .f32⟩) (.of main_v0 : TRef sig ⟨S8x2048x64x32, .f32⟩) select ]

set_option maxRecDepth 4096 in
/-- The reference is that straight line. -/
theorem main_line (c : Dev nD) : main (F := F) c = seq line := by
  simp only [main, fn_take.body, fn_where.body, seq, bind_assoc, pure_bind]

/-- The ids with the negative ones wrapped once, one to a start index. -/
def starts (ids : IVec S8x2048 32) : IVec S8x2048x1 32 :=
  broadcastInDim S8x2048x1 ![0, 1] bcast_S8x2048_S8x2048x1_0_1
    (select (cmpi .slt ids (broadcastInDim S8x2048 ![] bcast_S_S8x2048 (constantI S_ 32 0#32)))
      (addi ids (broadcastInDim S8x2048 ![] bcast_S_S8x2048 (constantI S_ 32 65536#32))) ids)

/-- Which start indices are in the table. -/
def inside (st : IVec S8x2048x1 32) : IVec S8x2048 1 :=
  Host.reduce IntOp.andi
    (andi (cmpi .sge st (broadcastInDim S8x2048x1 ![] bcast_S_S8x2048x1 (constantI S_ 32 0#32)))
      (cmpi .sle st (broadcastInDim S8x2048x1 ![0, 1, 2] bcast_S1x1x1_S8x2048x1_0_1_2
        (broadcastInDim S1x1x1 ![2] bcast_S1_S1x1x1_2 (constantI S1 32 65535#32)))))
    (constantI S_ 1 1#1) reducesTo_S8x2048x1_S8x2048_d2 h_S_

/-- What the reference computes: the rows its start indices name, and the fill value where an id is outside. -/
def takeOf (ids : IVec S8x2048 32) (tab : FVec F S65536x64x32 .f32) : FVec F S8x2048x64x32 .f32 :=
  select (broadcastInDim S8x2048x64x32 ![0, 1] bcast_S8x2048_S8x2048x64x32_0_1 (inside (starts ids)))
    (Host.gather gather_S65536x64x32_S8x2048x1_S8x2048x64x32_23_0_n_n_0_2_16432 tab (starts ids))
    (broadcastInDim S8x2048x64x32 ![] bcast_S_S8x2048x64x32 (constant S_ .f32 0x7FC00000#32))

/-- Equal arguments give equal values. -/
theorem takeOf_congr {ids ids' : IVec S8x2048 32} {tab tab' : FVec F S65536x64x32 .f32} (hi : ids' = ids) (ht : tab' = tab) :
    takeOf ids' tab' = takeOf ids tab := by rw [hi, ht]

/-- After the line the result buffer holds that value. -/
theorem line_result (V : Valuation τ sig (Elt F)) :
    after line V (main_v0 : DevRef τ sig) = takeOf (V (main_arg0 : DevRef τ sig)) (V (main_arg1 : DevRef τ sig)) := by
  after_results_simp
  unfold takeOf inside starts
  simp -implicitDefEqProofs only [TRef.toBuf, TRef.ofBuf, cast_cast, cast_eq]

/-- The line writes neither argument. -/
theorem line_arg0 (V : Valuation τ sig (Elt F)) : after line V (main_arg0 : DevRef τ sig) = V (main_arg0 : DevRef τ sig) := by
  after_results
theorem line_arg1 (V : Valuation τ sig (Elt F)) : after line V (main_arg1 : DevRef τ sig) = V (main_arg1 : DevRef τ sig) := by
  after_results

/-- No buffer and no semaphore here is scoped. -/
theorem no_refs : (Finset.univ.filter fun b : Ref sig .tc => b.isScoped) = ∅ := by decide
theorem no_sems : (Finset.univ.filter fun sm : SemLoc sig => sm.isScoped .tc) = ∅ := by decide

/-- Each operation touches the core's own buffers only. -/
theorem line_bufs : (line : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub ..⟩

/-- From any memory with zero counters the reference runs to an end, its result buffer at that value of its two
    arguments, the arguments as they were and every counter zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0)
          = takeOf (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v0).trans (line_result _), (h c main_arg0).trans (line_arg0 _),
      (h c main_arg1).trans (line_arg1 _)⟩, sem_eq_zero_of_no_sems (by decide) r.2⟩)
    (run_seq no_refs no_sems defs main (fun _ => line) main_line (fun _ => line_bufs) m ρ)

end Cert.Proof.Ref

end
-- ==== Proof.Table.lean ====
module

public import proofs.«01_k».proof.Proof.Launch
public import proofs.«01_k».proof.Proof.Reference
public import proofs.«01_k».proof.Proof.Gen.Pre_in_table
public import Idealize.ShloMosaic.Lib.ReduceAll
public import Idealize.ShloMosaic.Lib.StableHlo.Predicate

/-! The precondition read back, and the reference's value as rows of the table. -/

@[expose] public section

noncomputable section

namespace Cert.Proof.Ref

open Cert.ReferenceIdeal Cert.ReferenceIdeal.Gen
open Idealize.ShloMosaic Idealize.ShloMosaic.StableHlo.Predicate

variable {F : FTy → Type} [FloatOps F]

/-- A word between 0 and 65536 when read signed is that small unsigned. -/
theorem small_of_signed (a : BitVec 32) (h0 : (0#32).sle a = true) (h1 : a.slt 65536#32 = true) : a.toNat < 65536 := by
  simp only [BitVec.sle, BitVec.slt, decide_eq_true_eq, BitVec.toInt_eq_toNat_cond, BitVec.toNat_ofNat] at h0 h1
  have := a.isLt
  split at h1 <;> split at h0 <;> omega

/-- The precondition says that every id names a row of the table. -/
theorem ids_small (ids : IVec S8x2048 32) (tab : FVec F S65536x64x32 .f32)
    (h : Cert.Pre_in_table.fn (F := F) ids tab = fun _ => 1#1) (j : S8x2048.Idx) : (ids j).toNat < 65536 := by
  have e := congrFun h (Shape.Idx.first (by decide))
  haveI : Subsingleton Cert.Pre_in_table.S_.Idx := ⟨fun a b => funext fun x => x.elim0⟩
  have e1 := Host.reduce_andi_all _ _ _ _ _ e j
  obtain ⟨g, l⟩ := IntOp.andi_eq_one.1 e1
  refine small_of_signed _ ?_ ?_
  · exact (ofBool_eq_one_iff _).1 g
  · exact (ofBool_eq_one_iff _).1 l

section
variable (ids : IVec S8x2048 32) (hids : ∀ j, (ids j).toNat < 65536)
include hids

/-- An id that is not negative is its own start index. -/
theorem starts_eq (j : S8x2048x1.Idx) : starts ids j = ids (fun a => match a with | 0 => j 0 | 1 => j 1) := by
  have e : starts ids j = select (cmpi .slt ids (broadcastInDim S8x2048 ![] bcast_S_S8x2048 (constantI S_ 32 0#32)))
      (addi ids (broadcastInDim S8x2048 ![] bcast_S_S8x2048 (constantI S_ 32 65536#32))) ids
      (fun a => match a with | 0 => j 0 | 1 => j 1) := by
    unfold starts broadcastInDim
    congr 1
    funext a
    match a with
    | 0 => rfl
    | 1 => rfl
  rw [e]
  set k : S8x2048.Idx := fun a => match a with | 0 => j 0 | 1 => j 1
  show (if IntOp.cmpi .slt (ids k) 0#32 = 1#1 then _ else ids k) = ids k
  rw [if_neg]
  have hk := hids k
  rw [slt_iff_toNat (by omega) (by decide)]
  simp

/-- So every start index is in the table. -/
theorem inside_one (j : S8x2048.Idx) : inside (starts ids) j = 1#1 := by
  unfold inside
  refine Host.reduce_andi_one _ _ _ _ _ rfl fun i => ?_
  have hs : (starts ids i).toNat < 65536 := by rw [starts_eq ids hids]; exact hids _
  refine IntOp.andi_eq_one.2 ⟨?_, ?_⟩
  · exact (sge_iff_toNat (a := starts ids i) (b := 0#32) (by omega) (by decide)).2 (by simp)
  · exact (sle_iff_toNat (a := starts ids i) (b := 65535#32) (by omega) (by decide)).2 (by
      show _ ≤ 65535
      omega)

end

end Cert.Proof.Ref

end
-- ==== Proof.Same.lean ====
module

public import proofs.«01_k».proof.Defs
public import proofs.«01_k».proof.Proof.Gen.Kernel.Skeleton
public import proofs.«01_k».proof.Proof.Gen.KernelIdeal.Skeleton
public import Idealize.ShloMosaic.Lib.Pipeline.Regions

@[expose] public section

noncomputable section

namespace Cert.Proof

open Idealize.ShloMosaic Idealize.SL.Sem

variable {F : FTy → Type} [FloatOps F]

/-- The idealized program's main is the program's own. -/
theorem main_same : (Cert.KernelIdeal.main (F := F)) = Cert.Kernel.main (F := F) := by chain_rfl

/-- The idealized program's procedures are the program's own. -/
theorem defs_same : (Cert.KernelIdeal.defs (F := F)) = Cert.Kernel.defs (F := F) := by chain_rfl

/-- A run of the idealized program is a run of the program. -/
theorem run_same (s : MemSt Cert.Kernel.nD Cert.Kernel.τ Cert.Kernel.sig (Elt F))
    (Q : PUnit.{1} × MemSt Cert.Kernel.nD Cert.Kernel.τ Cert.Kernel.sig (Elt F) → Prop) :
    θ_run (Cert.KernelIdeal.defs (F := F)) (onTc (τ := Cert.KernelIdeal.τ) (Cert.KernelIdeal.main (F := F))) s Q
      = θ_run (Cert.Kernel.defs (F := F)) (onTc (τ := Cert.Kernel.τ) (Cert.Kernel.main (F := F))) s Q := by chain_rfl

end Cert.Proof
-- ==== Proof.Value.lean ====
module

public import proofs.«01_k».proof.Proof.Table
public import proofs.«01_k».proof.Proof.Same

/-! The kernel's result and the reference's are the same rows of the table. -/

@[expose] public section

noncomputable section

namespace Cert.Proof

open Idealize.ShloMosaic
open Idealize.ShloMosaic.ValueIdx (ix1 ix2 ix3 ix4)

variable {F : FTy → Type} [FloatOps F]

/-- Row by row: element `(b, s, h, d)` is element `(h, d)` of the row that id `(b, s)` names. -/
def rowsOf (ids : IVec Cert.ReferenceIdeal.S8x2048 32) (tab : FVec F Cert.ReferenceIdeal.S65536x64x32 .f32) :
    FVec F Cert.ReferenceIdeal.S8x2048x64x32 .f32 :=
  fun j => tab (ix3 (Fin.ofNat 65536 (ids (ix2 (j 0) (j 1))).toNat) (j 2) (j 3))

section Reference
open Cert.ReferenceIdeal Cert.ReferenceIdeal.Gen Cert.Proof.Ref

/-- A choice whose condition is set is the first operand. -/
theorem select_set {t : Shape} {α : Type} (q : IVec t 1) (x y : t.Idx → α) (j : t.Idx) (h : q j = 1#1) : select q x y j = x j := by
  show Scalar.select (q j) (x j) (y j) = x j
  rw [h]
  exact if_pos rfl

/-- The row operation the reference uses, read at one element: the start index's row, clamped into the table. -/
theorem gather_row (tab : FVec F S65536x64x32 .f32) (st : IVec S8x2048x1 32) (j : S8x2048x64x32.Idx) :
    Host.gather gather_S65536x64x32_S8x2048x1_S8x2048x64x32_23_0_n_n_0_2_16432 tab st j
      = tab (ix3 (⟨min (st (ix3 (j 0) (j 1) (0 : Fin 1))).toInt.toNat 65535, by omega⟩ : Fin 65536) (j 2) (j 3)) := by
  refine congrArg tab ?_
  funext a
  have es : (gather_S65536x64x32_S8x2048x1_S8x2048x64x32_23_0_n_n_0_2_16432).siIdx j ⟨0, by decide⟩ = ix3 (j 0) (j 1) (0 : Fin 1) := by
    funext b
    match b with
    | 0 => rfl
    | 1 => rfl
    | 2 => rfl
  match a with
  | 0 =>
    apply Fin.ext
    show min (st ((gather_S65536x64x32_S8x2048x1_S8x2048x64x32_23_0_n_n_0_2_16432).siIdx j ⟨0, by decide⟩)).toInt.toNat (65536 - 1) + 0 + 0
      = min (st (ix3 (j 0) (j 1) (0 : Fin 1))).toInt.toNat 65535
    rw [es]
    rfl
  | 1 =>
    apply Fin.ext
    show 0 + 0 + (j 2).val = (j 2).val
    omega
  | 2 =>
    apply Fin.ext
    show 0 + 0 + (j 3).val = (j 3).val
    omega

/-- The reference takes those rows when every id names one. -/
theorem takeOf_eq (ids : IVec S8x2048 32) (hids : ∀ j, (ids j).toNat < 65536) (tab : FVec F S65536x64x32 .f32) :
    takeOf ids tab = rowsOf ids tab := by
  funext j
  unfold takeOf
  rw [select_set _ _ _ _ (by unfold broadcastInDim; exact inside_one ids hids _), gather_row]
  have hk : starts ids (ix3 (j 0) (j 1) (0 : Fin 1)) = ids (ix2 (j 0) (j 1)) := by
    rw [starts_eq ids hids]
    congr 1
    funext a
    match a with
    | 0 => rfl
    | 1 => rfl
  have hi := hids (ix2 (j 0) (j 1))
  have hr : (⟨min (starts ids (ix3 (j 0) (j 1) (0 : Fin 1))).toInt.toNat 65535, by omega⟩ : Fin 65536)
      = Fin.ofNat 65536 (ids (ix2 (j 0) (j 1))).toNat := by
    apply Fin.ext
    show min (starts ids (ix3 (j 0) (j 1) (0 : Fin 1))).toInt.toNat 65535 = (ids (ix2 (j 0) (j 1))).toNat % 65536
    rw [hk, StableHlo.Predicate.toInt_eq_toNat_of_lt (by omega)]
    omega
  exact congrArg (fun r : Fin 65536 => tab (ix3 r (j 2) (j 3))) hr

end Reference

section Kernel
open Cert.Kernel Cert.Kernel.Gen

variable (m : (ℓ : Loc nD τ sig) → Buf (Elt F) ℓ) (c : Dev nD)

/-- Position `n` of the flat ids is id `(n / 2048, n % 2048)`. -/
theorem idAt_flat (b : Fin 8) (s : Fin 2048) (n : ℕ) (hn : n = b.val * 2048 + s.val) :
    idAt (idsOf m c) n = (m (c, Proc.devRef .tc main_arg0) : S8x2048.Idx → BitVec 32) (ix2 b s) := by
  unfold idAt idsOf
  refine shapeCast_apply _ _ _ _ ?_
  show (S8x2048.rowMajor (ix2 b s)).val = _
  rw [Shape.rowMajor_val_two, Shape.rowMajor_val_one]
  show b.val * 2048 + s.val = n % 16384
  omega

/-- Element `(p, q)` of a re-cut row is element `(h, d)` of the row when both are at one place in it. -/
theorem tab_cut (r : Fin 65536) (h : Fin 64) (d : Fin 32) (p : Fin 16) (q : Fin 128) (e : p.val * 128 + q.val = h.val * 32 + d.val) :
    tabOf m c (ix3 r p q) = (m (c, Proc.devRef .tc main_arg1) : S65536x64x32.Idx → Elt F .f32) (ix3 r h d) := by
  unfold tabOf
  refine shapeCast_apply _ _ _ _ ?_
  show (S65536x64x32.rowMajor (ix3 r h d)).val = _
  rw [Shape.rowMajor_val_three, Shape.rowMajor_val_three]
  show (r.val * 64 + h.val) * 32 + d.val = (r.val * 16 + p.val) * 128 + q.val
  omega

/-- The kernel's result is those rows. -/
theorem resOf_eq : resOf m c = rowsOf (m (c, Proc.devRef .tc main_arg0)) (m (c, Proc.devRef .tc main_arg1)) := by
  funext j
  have h0 : (j 0).val < 8 := (j 0).isLt
  have h1 : (j 1).val < 2048 := (j 1).isLt
  have h2 : (j 2).val < 64 := (j 2).isLt
  have h3 : (j 3).val < 32 := (j 3).isLt
  have e : resOf m c j = GO (idsOf m c) (tabOf m c) (ix3 (⟨(j 0).val * 2048 + (j 1).val, by omega⟩ : Fin 16384)
      (⟨((j 2).val * 32 + (j 3).val) / 128, by omega⟩ : Fin 16) (⟨((j 2).val * 32 + (j 3).val) % 128, by omega⟩ : Fin 128)) := by
    unfold resOf
    refine shapeCast_apply _ _ _ _ ?_
    rw [Shape.rowMajor_val_three, Shape.rowMajor_val_four]
    show (((j 0).val * 2048 + (j 1).val) * 16 + ((j 2).val * 32 + (j 3).val) / 128) * 128 + ((j 2).val * 32 + (j 3).val) % 128
      = (((j 0).val * 2048 + (j 1).val) * 64 + (j 2).val) * 32 + (j 3).val
    omega
  rw [e]
  unfold GO rowOf rowsOf
  show tabOf m c (ix3 (Fin.ofNat 65536 (idAt (idsOf m c) ((j 0).val * 2048 + (j 1).val)).toNat) _ _) = _
  rw [idAt_flat m c (j 0) (j 1) _ rfl]
  refine tab_cut m c _ _ _ _ _ ?_
  show ((j 2).val * 32 + (j 3).val) / 128 * 128 + ((j 2).val * 32 + (j 3).val) % 128 = (j 2).val * 32 + (j 3).val
  omega

/-- Ids that name rows stay so when laid in one row. -/
theorem idsOK_of (h : ∀ j : S8x2048.Idx, ((m (c, Proc.devRef .tc main_arg0) : S8x2048.Idx → BitVec 32) j).toNat < 65536) :
    IdsOK (idsOf m c) := fun n => h _

end Kernel

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_table
public import proofs.«01_k».proof.Proof.Value

/-! The certificate: the kernel's run at the machine's numbers and at the ideal ones, the reference's run, and the
    equality of their results. -/

@[expose] public section

noncomputable section

namespace Cert.Proof

open Idealize.ShloMosaic Idealize.SL.Sem

variable {F : FTy → Type} [FloatOps F]

/-- The kernel's run with its result spelt as rows of the table, when the precondition holds. -/
theorem run_kernel (m : (ℓ : Loc Kernel.nD Kernel.τ Kernel.sig) → Buf (Elt F) ℓ) (g : Dev Kernel.nD → PrngReg)
    (h : ∀ c : Dev Kernel.nD, Cert.Pre_in_table.fn (F := F) (m ((c.tc : Thread Kernel.nD Kernel.τ).loc Kernel.main_arg0))
      (m ((c.tc : Thread Kernel.nD Kernel.τ).loc Kernel.main_arg1)) = fun _ => 1#1) :
    θ_run (Kernel.defs (F := F)) (onTc (τ := Kernel.τ) (Kernel.main (F := F))) ⟨m, fun _ => 0, g⟩ (fun r =>
      (∀ c : Dev Kernel.nD,
        r.2.mem ((c.tc : Thread Kernel.nD Kernel.τ).loc Kernel.main_v3)
          = rowsOf (m ((c.tc : Thread Kernel.nD Kernel.τ).loc Kernel.main_arg0)) (m ((c.tc : Thread Kernel.nD Kernel.τ).loc Kernel.main_arg1))
        ∧ r.2.mem ((c.tc : Thread Kernel.nD Kernel.τ).loc Kernel.main_arg0) = m ((c.tc : Thread Kernel.nD Kernel.τ).loc Kernel.main_arg0)
        ∧ r.2.mem ((c.tc : Thread Kernel.nD Kernel.τ).loc Kernel.main_arg1) = m ((c.tc : Thread Kernel.nD Kernel.τ).loc Kernel.main_arg1))
      ∧ r.2.sem = fun _ => 0) :=
  (θ_run _ _ _).mono (fun r hr => ⟨fun c => ⟨(hr.1 c).1.trans (resOf_eq m c), (hr.1 c).2.1, (hr.1 c).2.2⟩, hr.2⟩)
    (run_main m g fun c => idsOK_of m c (Ref.ids_small _ _ (h c)))

/-- The kernel runs to an end with its arguments kept and its semaphores at zero. -/
theorem kernel_quiescent : Cert.quiescent_Kernel := fun m g h =>
  (θ_run _ _ _).mono (fun r hr => ⟨fun c => (hr.1 c).2, hr.2⟩) (run_kernel m g h)

/-- So does the kernel at the ideal numbers. -/
theorem ideal_quiescent : Cert.quiescent_KernelIdeal := fun m g h => by
  rw [run_same]
  exact (θ_run _ _ _).mono (fun r hr => ⟨fun c => (hr.1 c).2, hr.2⟩) (run_kernel m g h)

/-- So does the reference, whatever its ids. -/
theorem reference_quiescent : Cert.quiescent_ReferenceIdeal := fun m g _ =>
  (θ_run _ _ _).mono (fun r hr => ⟨fun c => (hr.1 c).2, hr.2⟩) (Ref.run_ref m g)

/-- The two results are equal, as the same rows of the table. -/
theorem results_equal : Cert.algebraic_KernelIdeal_ReferenceIdeal := fun m g m' g' h hm => by
  refine ⟨fun c => rowsOf (F := Ideal) (m ((c.tc : Thread Kernel.nD Kernel.τ).loc Kernel.main_arg0))
    (m ((c.tc : Thread Kernel.nD Kernel.τ).loc Kernel.main_arg1)), ?_, ?_⟩
  · rw [run_same]
    exact (θ_run _ _ _).mono (fun r hr c => hr.1 c) (run_kernel m g h)
  · refine (θ_run _ _ _).mono (fun r hr c => ⟨(hr.1 c).1.trans ?_, (hr.1 c).2⟩) (Ref.run_ref m' g')
    rw [Ref.takeOf_congr (hm c).1 (hm c).2]
    exact takeOf_eq _ (Ref.ids_small _ _ (h c)) _

theorem claim : Cert.Claim :=
  ⟨Cert.Kernel.Gen.facts, Cert.KernelIdeal.Gen.facts, Cert.ReferenceIdeal.Gen.facts, Cert.Pre_in_table.Gen.facts,
    kernel_quiescent, ideal_quiescent, reference_quiescent, fun m g _ => reference_quiescent m g trivial, trivial, results_equal⟩

end Cert.Proof

end
